-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.PackStatement Cert.KernelIdeal.S8x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x13056 : Shape := ⟨3, ![64, 1, 13056]⟩
abbrev S6528x26496 : Shape := ⟨2, ![6528, 26496]⟩
abbrev S816x26496 : Shape := ⟨2, ![816, 26496]⟩
abbrev S_ : Shape := ⟨0, ![]⟩
abbrev S64x2x6528 : Shape := ⟨3, ![64, 2, 6528]⟩
abbrev S64x6528x2 : Shape := ⟨3, ![64, 6528, 2]⟩
abbrev S64x13056 : Shape := ⟨2, ![64, 13056]⟩
abbrev S1 : Shape := ⟨1, ![1]⟩
abbrev S64x26496 : Shape := ⟨2, ![64, 26496]⟩
abbrev S6528x512 : Shape := ⟨2, ![6528, 512]⟩
abbrev S816x512 : Shape := ⟨2, ![816, 512]⟩
abbrev S64x512 : Shape := ⟨2, ![64, 512]⟩
abbrev S8x512 : Shape := ⟨2, ![8, 512]⟩
abbrev S16x512 : Shape := ⟨2, ![16, 512]⟩
abbrev S64x256 : Shape := ⟨2, ![64, 256]⟩
abbrev S128x256 : Shape := ⟨2, ![128, 256]⟩
abbrev S256x256 : Shape := ⟨2, ![256, 256]⟩
abbrev S2x256 : Shape := ⟨2, ![2, 256]⟩
abbrev S16x256 : Shape := ⟨2, ![16, 256]⟩

abbrev nBuf : Space → Nat
  | .hbm => 9
  | .vmem => 8
  | .smem => 1
  | _ => 0

abbrev bufTy : (tb : Table) → Fin (tcTables nBuf tb) → BufTy
  | .hbm, ⟨0, _⟩ => ⟨S64x1x13056, .bf16⟩
  | .hbm, ⟨1, _⟩ => ⟨S6528x26496, .i8⟩
  | .hbm, ⟨2, _⟩ => ⟨S816x26496, .fp8e4m3⟩
  | .hbm, ⟨3, _⟩ => ⟨S_, .f32⟩
  | .hbm, ⟨4, _⟩ => ⟨S64x2x6528, .bf16⟩
  | .hbm, ⟨5, _⟩ => ⟨S64x6528x2, .bf16⟩
  | .hbm, ⟨6, _⟩ => ⟨S64x13056, .bf16⟩
  | .hbm, ⟨7, _⟩ => ⟨S1, .f32⟩
  | .hbm, ⟨8, _⟩ => ⟨S64x26496, .bf16⟩
  | .local _ .vmem, ⟨0, _⟩ => ⟨S64x13056, .bf16⟩
  | .local _ .vmem, ⟨1, _⟩ => ⟨S6528x512, .i8⟩
  | .local _ .vmem, ⟨2, _⟩ => ⟨S6528x512, .i8⟩
  | .local _ .vmem, ⟨3, _⟩ => ⟨S816x512, .fp8e4m3⟩
  | .local _ .vmem, ⟨4, _⟩ => ⟨S816x512, .fp8e4m3⟩
  | .local _ .vmem, ⟨5, _⟩ => ⟨S64x512, .bf16⟩
  | .local _ .vmem, ⟨6, _⟩ => ⟨S64x512, .bf16⟩
  | .local _ .vmem, ⟨7, _⟩ => ⟨S816x512, .bf16⟩
  | .local _ .smem, ⟨0, _⟩ => ⟨S1, .f32⟩
  | _, _ => ⟨S64x1x13056, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x13056 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6528x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S816x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S64x1x13056 : Shape := ⟨3, ![64, 1, 13056]⟩
abbrev S6528x26496 : Shape := ⟨2, ![6528, 26496]⟩
abbrev S816x26496 : Shape := ⟨2, ![816, 26496]⟩
abbrev S_ : Shape := ⟨0, ![]⟩
abbrev S64x13056 : Shape := ⟨2, ![64, 13056]⟩
abbrev S1 : Shape := ⟨1, ![1]⟩
abbrev S64x26496 : Shape := ⟨2, ![64, 26496]⟩
abbrev S408x26496 : Shape := ⟨2, ![408, 26496]⟩
abbrev S408x16x26496 : Shape := ⟨3, ![408, 16, 26496]⟩
abbrev S408x1x26496 : Shape := ⟨3, ![408, 1, 26496]⟩
abbrev S64x6528 : Shape := ⟨2, ![64, 6528]⟩

abbrev nBuf : Space → Nat
  | .hbm => 7
  | .vmem => 4
  | .smem => 1
  | _ => 0

abbrev bufTy : (tb : Table) → Fin (tcTables nBuf tb) → BufTy
  | .hbm, ⟨0, _⟩ => ⟨S64x1x13056, .bf16⟩
  | .hbm, ⟨1, _⟩ => ⟨S6528x26496, .i8⟩
  | .hbm, ⟨2, _⟩ => ⟨S816x26496, .fp8e4m3⟩
  | .hbm, ⟨3, _⟩ => ⟨S_, .f32⟩
  | .hbm, ⟨4, _⟩ => ⟨S64x13056, .bf16⟩
  | .hbm, ⟨5, _⟩ => ⟨S1, .f32⟩
  | .hbm, ⟨6, _⟩ => ⟨S64x26496, .bf16⟩
  | .local _ .vmem, ⟨0, _⟩ => ⟨S64x13056, .bf16⟩
  | .local _ .vmem, ⟨1, _⟩ => ⟨S6528x26496, .i8⟩
  | .local _ .vmem, ⟨2, _⟩ => ⟨S816x26496, .fp8e4m3⟩
  | .local _ .vmem, ⟨3, _⟩ => ⟨S64x26496, .bf16⟩
  | .local _ .smem, ⟨0, _⟩ => ⟨S1, .f32⟩
  | _, _ => ⟨S64x1x13056, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S64x13056 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6528x26496 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S816x26496 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x26496 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Loop.lean ====
/-
  The kernel body written as its two loops, for any program's memrefs: what the printed, fully unrolled body is equal to
  (Proof/Unrolled.lean), and what the triple of Proof/Triple.lean is proved of.
-/
module

public import Idealize.ShloMosaic.Lib.Pipeline
public import Idealize.ShloMosaic.Lib.Scf
public import Idealize.ShloMosaic.Lib.Sig
public import Idealize.ShloMosaic.Lib.StableHlo
public import Idealize.ShloMosaic.PureOps
public import Idealize.ShloMosaic.Lib.Mxu

@[expose] public section

noncomputable section

namespace Cert.Proof.Loop

open Idealize.ShloMosaic Idealize.SL.Sem

abbrev SX : Shape := ⟨2, ![64, 13056]⟩
abbrev SW : Shape := ⟨2, ![6528, 512]⟩
abbrev SS : Shape := ⟨2, ![816, 512]⟩
abbrev SG : Shape := ⟨1, ![1]⟩
abbrev SO : Shape := ⟨2, ![64, 512]⟩
abbrev S8 : Shape := ⟨2, ![8, 512]⟩
abbrev S16 : Shape := ⟨2, ![16, 512]⟩
abbrev SLhs : Shape := ⟨2, ![64, 256]⟩
abbrev SByte : Shape := ⟨2, ![128, 256]⟩
abbrev SPair : Shape := ⟨2, ![2, 256]⟩
abbrev SWord : Shape := ⟨2, ![16, 256]⟩
abbrev STl : Shape := ⟨2, ![256, 256]⟩

/-! ## The rectangles, at any step -/

theorem inb2 {m n o p a b : ℕ} (h : a + o ≤ m) (h' : b + p ≤ n) :
    ∀ x, (![a, b] : Fin 2 → ℕ) x + (⟨2, ![o, p]⟩ : Shape).size x ≤ (⟨2, ![m, n]⟩ : Shape).size x := by
  intro x; fin_cases x
  · exact h
  · exact h'

/-- The 8 scale rows of the low nibbles of step `k`. -/
abbrev rLo (k : ℕ) (hk : k < 51) : Rect SS := Rect.unit (s := SS) ![8 * k, 0] S8.size (inb2 (by omega) (by omega))
/-- The 8 scale rows of the high nibbles of step `k`. -/
abbrev rHi (k : ℕ) (hk : k < 51) : Rect SS := Rect.unit (s := SS) ![408 + 8 * k, 0] S8.size (inb2 (by omega) (by omega))
/-- The 16 rows of the scale scratch that step `k` writes. -/
abbrev rSc (k : ℕ) (hk : k < 51) : Rect SS := Rect.unit (s := SS) ![16 * k, 0] S16.size (inb2 (by omega) (by omega))
/-- The 256 columns of the left operand of step `k`. -/
abbrev rX (k : ℕ) (hk : k < 51) : Rect SX := Rect.unit (s := SX) ![0, 256 * k] SLhs.size (inb2 (by omega) (by omega))
/-- The 128 rows of bytes of step `k`, half `q` of the stripe. -/
abbrev rW (k : ℕ) (hk : k < 51) (q : Fin 2) : Rect SW :=
  Rect.unit (s := SW) ![128 * k, 256 * q.val] SByte.size (inb2 (by omega) (by omega))
/-- The two rows of scales, low then high, of block `b` of step `k`, half `q` of the stripe. -/
abbrev rPair (k : ℕ) (hk : k < 51) (q : Fin 2) (b : ℕ) (hb : b < 8) : Rect SS :=
  Rect.unit (s := SS) ![16 * k + 2 * b, 256 * q.val] SPair.size (inb2 (by omega) (by omega))
/-- Half `q` of the output stripe. -/
abbrev rO (q : Fin 2) : Rect SO := Rect.unit (s := SO) ![0, 256 * q.val] SLhs.size (inb2 (by omega) (by omega))
/-- The one word of the global scale. -/
abbrev rG : Rect SG := Rect.unit (s := SG) ![0] SG.size (by decide)

theorem packedSc (k : ℕ) (hk : k < 51) : (rSc k hk).PackedRows (EltTy.packing .bf16) :=
  .inr ⟨by decide, rfl, .inl ⟨⟨8 * k, by show 16 * k = 2 * (8 * k); omega⟩, ⟨8, rfl⟩⟩⟩

theorem packedO (q : Fin 2) : (rO q).PackedRows (EltTy.packing .bf16) :=
  .inr ⟨by decide, rfl, .inl ⟨⟨0, rfl⟩, ⟨32, rfl⟩⟩⟩

theorem posS8 : 0 < S8.numel := by decide
theorem posS16 : 0 < S16.numel := by decide
theorem posG : 0 < SG.numel := by decide
theorem castLhs : SLhs.ShapeCasts SLhs := by decide
theorem posLhs : 0 < SLhs.numel := by decide
theorem posByte : 0 < SByte.numel := by decide
theorem posPair : 0 < SPair.numel := by decide

theorem fits : Mxu.Fits 0 64 := by decide

theorem concatPair : Shape.Concatenates [SPair, SPair, SPair, SPair, SPair, SPair, SPair, SPair] SWord 0 := by decide

theorem concatWord : Shape.Concatenates [SWord, SWord, SWord, SWord, SWord, SWord, SWord, SWord, SWord, SWord, SWord, SWord,
    SWord, SWord, SWord, SWord] STl 0 := by decide

/-! ## What a step computes -/

variable {F : FTy → Type} [FloatOps F]

/-- The bf16 pattern of an e2m1 code, in the low half of a word. -/
def pattern (c : IVec SByte 32) : IVec SByte 32 :=
  ori (shli (select (cmpi .sge (andi c (broadcast SByte 7#32)) (broadcast SByte 2#32))
      (addi (andi c (broadcast SByte 7#32)) (broadcast SByte 252#32))
      (muli (andi c (broadcast SByte 7#32)) (broadcast SByte 252#32))) (broadcast SByte 6#32))
    (shli (andi c (broadcast SByte 8#32)) (broadcast SByte 12#32))

/-- Bytes of two codes to words of two patterns, low nibble low. -/
def words (w : Vec F SByte .i8) : IVec SByte 32 :=
  ori (pattern (andi (extui 32 w (by decide)) (broadcast SByte 15#32)))
    (shli (pattern (shrsi (extui 32 w (by decide)) (broadcast SByte 4#32))) (broadcast SByte 16#32))

/-- The values of 128 rows of bytes: 256 rows, the low nibble of a byte above its high one. -/
def decode (w : Vec F SByte .i8) : FVec F STl .bf16 :=
  bitcastToFloat .bf16 (bitcast STl 16 (words (F := F) w) (by decide))

/-- A pair of scale rows repeated eight times. -/
def eight (r : FVec F SPair .bf16) : FVec F SWord .bf16 :=
  concatenate SWord 0 [⟨SPair, r⟩, ⟨SPair, r⟩, ⟨SPair, r⟩, ⟨SPair, r⟩, ⟨SPair, r⟩, ⟨SPair, r⟩, ⟨SPair, r⟩, ⟨SPair, r⟩]
    concatPair

/-- The scales of a tile: each of 8 pairs of rows sixteen times. -/
def scales (r : Fin 8 → FVec F SPair .bf16) : FVec F STl .bf16 :=
  concatenate STl 0 [⟨SWord, eight (r 0)⟩, ⟨SWord, eight (r 0)⟩, ⟨SWord, eight (r 1)⟩, ⟨SWord, eight (r 1)⟩,
    ⟨SWord, eight (r 2)⟩, ⟨SWord, eight (r 2)⟩, ⟨SWord, eight (r 3)⟩, ⟨SWord, eight (r 3)⟩,
    ⟨SWord, eight (r 4)⟩, ⟨SWord, eight (r 4)⟩, ⟨SWord, eight (r 5)⟩, ⟨SWord, eight (r 5)⟩,
    ⟨SWord, eight (r 6)⟩, ⟨SWord, eight (r 6)⟩, ⟨SWord, eight (r 7)⟩, ⟨SWord, eight (r 7)⟩] concatWord

/-- The right-hand tile pushed: the decoded values times their scales. -/
def tile (w : Vec F SByte .i8) (r : Fin 8 → FVec F SPair .bf16) : FVec F STl .bf16 :=
  mulf (decode w) (scales r)

/-- What is stored of a half of the output: the unit's sums times the global scale, rounded to bf16. -/
def scaled (y : FVec F SLhs .f32) (g : Elt F .f32) : FVec F SLhs .bf16 :=
  truncf .bf16 (mulf y (broadcast SLhs g)) (by decide)

/-- The staging register of step `k`. -/
def regOf (k : ℕ) : Fin 2 := ⟨k % 2, Nat.mod_lt _ (by decide)⟩

/-- The unit after the tile `t` is pushed to unit `q` at step `k` and `x` is accumulated against it. -/
def step (k : ℕ) (q : Fin 2) (s : Mxu F) (x : FVec F SLhs .bf16) (t : FVec F STl .bf16) : Mxu F :=
  (s.pushed q (regOf k) false t).accLhs q (regOf k) 0 x fits

/-! ## The body -/

variable {nD : ℕ} {τ : Topo} {sig : RefSig} {Λ : Labels}

set_option quotPrecheck false in
local notation "𝒫" => Prog (TpuEff nD τ sig (Elt F) Λ .tc) PUnit

variable (pack : FVec F S8 .f32 → FVec F S8 .f32 → FVec F S16 .bf16)
  (arg1 : Memref sig .tc .vmem SX .bf16) (arg2 : Memref sig .tc .vmem SW .i8) (arg3 : Memref sig .tc .vmem SS .fp8e4m3)
  (arg4 : Memref sig .tc .smem SG .f32) (arg5 : Memref sig .tc .vmem SO .bf16) (harg5 : arg5.IsWhole)
  (arg6 : Memref sig .tc .vmem SS .bf16) (harg6 : arg6.IsWhole)

/-- What step `k` of the first loop stores: the scales of the two halves, rounded to bf16, row by row. -/
def widened (lo hi : Vec F S8 .fp8e4m3) : FVec F S16 .bf16 :=
  shapeCast S16 (pack (extf .f32 lo (by decide)) (extf .f32 hi (by decide))) (by decide)

/-- Step `k` of the first loop, then `rest`. -/
def widen (k : ℕ) (hk : k < 51) (rest : 𝒫) : 𝒫 :=
  .op (.load arg3 (rLo k hk).toLoadRect (View.loadsAt_vmem posS8)) fun (lo : Vec F S8 .fp8e4m3) =>
  .op (.load arg3 (rHi k hk).toLoadRect (View.loadsAt_vmem posS8)) fun (hi : Vec F S8 .fp8e4m3) =>
  .op (.load arg6 (rSc k hk).toLoadRect (View.loadsAt_vmem posS16)) fun _ =>
  .op (.store arg6 (rSc k hk) (widened pack lo hi) Finset.univ
    (View.stores_vmem posS16 (harg6.storeExact_slice rfl _ (packedSc k hk)) (fun _ => rfl)) (.inl rfl)) fun _ => rest

/-- `n` steps of the first loop from step `k`, then `rest`. -/
def widens : (n k : ℕ) → (h : k + n ≤ 51) → (rest : 𝒫) → 𝒫
  | 0, _, _, rest => rest
  | n + 1, k, h, rest => widen pack arg3 arg6 harg6 k (by omega) (widens n (k + 1) (by omega) rest)

/-- One unit's half of step `k` of the second loop on the left operand `x` from the state `s`, then `rest`. -/
def half (k : ℕ) (hk : k < 51) (q : Fin 2) (x : FVec F SLhs .bf16) (s : Mxu F) (rest : Mxu F → 𝒫) : 𝒫 :=
  .op (.load arg2 (rW k hk q).toLoadRect (View.loadsAt_vmem posByte)) fun (w : Vec F SByte .i8) =>
  .op (.load arg6 (rPair k hk q 0 (by decide)).toLoadRect (View.loadsAt_vmem posPair)) fun (r0 : Vec F SPair .bf16) =>
  .op (.load arg6 (rPair k hk q 1 (by decide)).toLoadRect (View.loadsAt_vmem posPair)) fun (r1 : Vec F SPair .bf16) =>
  .op (.load arg6 (rPair k hk q 2 (by decide)).toLoadRect (View.loadsAt_vmem posPair)) fun (r2 : Vec F SPair .bf16) =>
  .op (.load arg6 (rPair k hk q 3 (by decide)).toLoadRect (View.loadsAt_vmem posPair)) fun (r3 : Vec F SPair .bf16) =>
  .op (.load arg6 (rPair k hk q 4 (by decide)).toLoadRect (View.loadsAt_vmem posPair)) fun (r4 : Vec F SPair .bf16) =>
  .op (.load arg6 (rPair k hk q 5 (by decide)).toLoadRect (View.loadsAt_vmem posPair)) fun (r5 : Vec F SPair .bf16) =>
  .op (.load arg6 (rPair k hk q 6 (by decide)).toLoadRect (View.loadsAt_vmem posPair)) fun (r6 : Vec F SPair .bf16) =>
  .op (.load arg6 (rPair k hk q 7 (by decide)).toLoadRect (View.loadsAt_vmem posPair)) fun (r7 : Vec F SPair .bf16) =>
  .op (.assume (s.PushOk q (regOf k) false)) fun _ =>
  rest (step k q s x (tile w ![r0, r1, r2, r3, r4, r5, r6, r7]))

/-- Step `k` of the second loop, then `rest`. -/
def mul (k : ℕ) (hk : k < 51) (s : Mxu F) (rest : Mxu F → 𝒫) : 𝒫 :=
  .op (.load arg1 (rX k hk).toLoadRect (View.loadsAt_vmem posLhs)) fun (x : Vec F SLhs .bf16) =>
  half arg2 arg6 k hk 0 (shapeCast SLhs x castLhs) s fun s =>
  half arg2 arg6 k hk 1 (shapeCast SLhs x castLhs) s rest

/-- `n` steps of the second loop from step `k`, then `rest`. -/
def muls : (n k : ℕ) → (h : k + n ≤ 51) → (s : Mxu F) → (rest : Mxu F → 𝒫) → 𝒫
  | 0, _, _, s, rest => rest s
  | n + 1, k, h, s, rest => mul arg1 arg2 arg6 k (by omega) s fun s => muls n (k + 1) (by omega) s rest

/-- Pop unit `q`, scale, store its half of the output, then `rest`. -/
def put (q : Fin 2) (s : Mxu F) (rest : Mxu F → 𝒫) : 𝒫 :=
  .op (.load arg4 rG.toLoadRect (View.loadsAt_rect (View.loads_smem_one rfl (by decide)))) fun g =>
  .op (.load arg5 (rO q).toLoadRect (View.loadsAt_vmem posLhs)) fun _ =>
  .op (.store arg5 (rO q) (scaled (s.read q 0 fits) (g (Shape.Idx.first posG))) Finset.univ
    (View.stores_vmem posLhs (harg5.storeExact_slice rfl _ (packedO q)) (fun _ => rfl)) (.inl rfl)) fun _ =>
  rest (s.pop q 0 64 fits)

/-- The body: the first loop, the second, the two pops, and the unit drained. -/
def body : 𝒫 :=
  widens pack arg3 arg6 harg6 51 0 (by decide) <|
  muls arg1 arg2 arg6 51 0 (by decide) Mxu.init fun s =>
  put arg4 arg5 harg5 0 s fun s => put arg4 arg5 harg5 1 s fun s =>
  .op (.assume s.Drained) fun _ => .ret ⟨⟩

end Cert.Proof.Loop

end
-- ==== Proof.Unrolled.lean ====
/-
  The printed body is the two loops of Proof/Loop.lean: unrolling them gives the printed text, so the equation holds by
  definition, and the kernel checks it.
-/
module

public import proofs.«01_k».proof.Proof.Gen.Kernel
public import proofs.«01_k».proof.Proof.Gen.KernelIdeal
public import proofs.«01_k».proof.Proof.Loop
public import Idealize.ShloMosaic.Lib.Pipeline.Regions

@[expose] public section

noncomputable section

namespace Cert.Kernel

open Idealize.ShloMosaic Idealize.SL.Sem

variable {F : FTy → Type} [BitOps F]

/-- The bf16 rows of a pair of f32 rows, as P packs them: two bf16 to a word, the words read as rows. -/
def pack (lo hi : FVec F S8x512 .f32) : FVec F S16x512 .bf16 :=
  bitcastToFloat .bf16 (bitcast S16x512 16 (packElementwise lo hi) (by decide))

/-- P's printed body is the two loops. -/
theorem cc0_eq (i : grid0.Coords) (arg1 : Memref sig .tc .vmem S64x13056 .bf16) (harg1 : arg1.IsWhole)
    (arg2 : Memref sig .tc .vmem S6528x512 .i8) (harg2 : arg2.IsWhole) (arg3 : Memref sig .tc .vmem S816x512 .fp8e4m3)
    (harg3 : arg3.IsWhole) (arg4 : Memref sig .tc .smem S1 .f32) (harg4 : arg4.IsWhole)
    (arg5 : Memref sig .tc .vmem S64x512 .bf16) (harg5 : arg5.IsWhole) (arg6 : Memref sig .tc .vmem S816x512 .bf16)
    (harg6 : arg6.IsWhole) :
    cc0_nvfp4_linear (F := F) i arg1 harg1 arg2 harg2 arg3 harg3 arg4 harg4 arg5 harg5 arg6 harg6
      = Cert.Proof.Loop.body pack arg1 arg2 arg3 arg4 arg5 harg5 arg6 harg6 := by
  chain_rfl

end Cert.Kernel

namespace Cert.KernelIdeal

open Idealize.ShloMosaic Idealize.SL.Sem

variable {F : FTy → Type} [FloatOps F]

/-- The bf16 rows of a pair of f32 rows, as PI packs them: each rounded, the rows interleaved. -/
def pack (lo hi : FVec F S8x512 .f32) : FVec F S16x512 .bf16 :=
  interleaveRows S16x512 (truncf .bf16 lo (by decide)) (truncf .bf16 hi (by decide)) (by decide)

/-- PI's printed body is the two loops. -/
theorem cc0_eq (i : grid0.Coords) (arg1 : Memref sig .tc .vmem S64x13056 .bf16) (harg1 : arg1.IsWhole)
    (arg2 : Memref sig .tc .vmem S6528x512 .i8) (harg2 : arg2.IsWhole) (arg3 : Memref sig .tc .vmem S816x512 .fp8e4m3)
    (harg3 : arg3.IsWhole) (arg4 : Memref sig .tc .smem S1 .f32) (harg4 : arg4.IsWhole)
    (arg5 : Memref sig .tc .vmem S64x512 .bf16) (harg5 : arg5.IsWhole) (arg6 : Memref sig .tc .vmem S816x512 .bf16)
    (harg6 : arg6.IsWhole) :
    cc0_nvfp4_linear (F := F) i arg1 harg1 arg2 harg2 arg3 harg3 arg4 harg4 arg5 harg5 arg6 harg6
      = Cert.Proof.Loop.body pack arg1 arg2 arg3 arg4 arg5 harg5 arg6 harg6 := by
  chain_rfl

end Cert.KernelIdeal

end
-- ==== Proof.Spec.lean ====
/-
  What the two loops compute, as functions of the blocks the body is called on, and the matrix unit's state between steps.
-/
module

public import proofs.«01_k».proof.Proof.Loop
public import Idealize.ShloMosaic.Lib.Mxu.Lemmas

@[expose] public section

noncomputable section

namespace Cert.Proof.Loop

open Idealize.ShloMosaic

variable {F : FTy → Type} [FloatOps F]

/-- An array read through a rectangle. -/
def sub {s : Shape} {α : Type} (X : s.Idx → α) (r : Rect s) : r.shape.Idx → α := fun y => X (r.toLoadRect.idx y)

/-- A rank-two index from its coordinates. -/
abbrev ix {m n : ℕ} (i : Fin m) (j : Fin n) : (⟨2, ![m, n]⟩ : Shape).Idx := Fin.cons i (Fin.cons j finZeroElim)

theorem ix_eta {m n : ℕ} (i : (⟨2, ![m, n]⟩ : Shape).Idx) : ix (i 0) (i 1) = i := by
  funext a; match a with | 0 => rfl | 1 => rfl

section

variable (pack : FVec F S8 .f32 → FVec F S8 .f32 → FVec F S16 .bf16)

/-- The scale scratch after the first loop: its rows `16 k … 16 k + 15` are what step `k` stores. -/
def scratch (S : Vec F SS .fp8e4m3) : Vec F SS .bf16 := fun i =>
  have hi : (i 0).val < 816 := (i 0).isLt
  widened pack (sub S (rLo ((i 0).val / 16) (by omega))) (sub S (rHi ((i 0).val / 16) (by omega)))
    (ix ⟨(i 0).val % 16, Nat.mod_lt _ (by decide)⟩ (i 1))

end

/-- The left operand of step `k`. -/
def lhs (X : Vec F SX .bf16) (k : ℕ) (hk : k < 51) : FVec F SLhs .bf16 := shapeCast (s := SLhs) SLhs (sub X (rX k hk)) castLhs

/-- The right operand of step `k`, half `q`, from the bytes and the scale scratch. -/
def rhs (W : Vec F SW .i8) (C : Vec F SS .bf16) (k : ℕ) (hk : k < 51) (q : Fin 2) : FVec F STl .bf16 :=
  tile (sub W (rW k hk q)) fun b => sub C (rPair k hk q b.val b.isLt)

/-- What step `k` adds to half `q` of the output. -/
def pass (X : Vec F SX .bf16) (W : Vec F SW .i8) (C : Vec F SS .bf16) (q : Fin 2) (k : ℕ) (hk : k < 51) : FVec F SLhs .f32 :=
  FloatOps.mxuPass (DotDims.plain 64 256 256) (lhs X k hk) (rhs W C k hk q)

/-- Half `q` of the output's sums after `n` steps. -/
def sums (X : Vec F SX .bf16) (W : Vec F SW .i8) (C : Vec F SS .bf16) (q : Fin 2) : (n : ℕ) → n ≤ 51 → FVec F SLhs .f32
  | 0, _ => constant _ .f32 0
  | 1, _ => pass X W C q 0 (by decide)
  | n + 2, h => addf (sums X W C q (n + 1) (by omega)) (pass X W C q (n + 1) h)

/-- The output stripe: each half its sums times the global scale, rounded to bf16. -/
def out (X : Vec F SX .bf16) (W : Vec F SW .i8) (C : Vec F SS .bf16) (G : Vec F SG .f32) : Vec F SO .bf16 := fun i =>
  have hi : (i 1).val < 512 := (i 1).isLt
  scaled (sums X W C ⟨(i 1).val / 256, by omega⟩ 51 le_rfl) (sub G rG (Shape.Idx.first posG))
    (ix (i 0) ⟨(i 1).val % 256, Nat.mod_lt _ (by decide)⟩)

theorem out_apply (X : Vec F SX .bf16) (W : Vec F SW .i8) (C : Vec F SS .bf16) (G : Vec F SG .f32) (i : SO.Idx) (q : Fin 2)
    (hq : (i 1).val / 256 = q.val) :
    out X W C G i = scaled (sums X W C q 51 le_rfl) (sub G rG (Shape.Idx.first posG))
      (ix (i 0) ⟨(i 1).val % 256, Nat.mod_lt _ (by decide)⟩) := by
  obtain ⟨q, h⟩ := q
  subst hq
  rfl

/-! ## The matrix unit between steps -/

/-- Unit `q` after `n` steps: no tile staged, the accumulator's first 64 rows live once a step is done, and holding the sums. -/
structure Holds (q : Fin 2) (y : FVec F SLhs .f32) (n : ℕ) (s : Mxu F) : Prop where
  reg : ∀ r, s.reg q r = none
  live : ∀ R, s.live q R = decide (0 < n ∧ R.val < 64)
  read : s.read q 0 fits = y

theorem holds_init (q : Fin 2) : Holds q (constant _ .f32 0) 0 (Mxu.init : Mxu F) :=
  ⟨fun _ => Mxu.reg_init _ _, fun _ => by simp, Mxu.read_init _ _ _⟩

/-- A step on the other unit changes nothing of this one. -/
theorem holds_step_other {q q' : Fin 2} (hq : q' ≠ q) {y : FVec F SLhs .f32} {n : ℕ} {s : Mxu F} (h : Holds q' y n s) (k : ℕ)
    (x : FVec F SLhs .bf16) (t : FVec F STl .bf16) : Holds q' y n (step k q s x t) := by
  refine ⟨fun r => ?_, fun R => ?_, ?_⟩
  · unfold step
    rw [Mxu.reg_accLhs_ne _ _ _ _ _ _ _ _ fun h => hq h.1, Mxu.reg_pushed_ne _ _ _ _ _ _ _ fun h => hq h.1, h.reg]
  · unfold step
    rw [Mxu.live_accLhs, if_neg fun h => hq h.1, Mxu.live_pushed, h.live]
  · unfold step
    rw [Mxu.read_accLhs_ne _ _ _ _ _ _ _ _ _ (.inl hq), Mxu.read_pushed, h.read]

/-- The first step on a unit leaves its pass; -/
theorem holds_step_zero {q : Fin 2} {y : FVec F SLhs .f32} {s : Mxu F} (h : Holds q y 0 s) (k : ℕ)
    (x : FVec F SLhs .bf16) (t : FVec F STl .bf16) :
    Holds q (FloatOps.mxuPass (DotDims.plain 64 256 256) x t) 1 (step k q s x t) := by
  refine ⟨fun r => ?_, fun R => ?_, ?_⟩
  · unfold step
    by_cases hr : r = regOf k
    · subst hr; exact Mxu.reg_accLhs _ _ _ _ _ _
    · rw [Mxu.reg_accLhs_ne _ _ _ _ _ _ _ _ fun h => hr h.2, Mxu.reg_pushed_ne _ _ _ _ _ _ _ fun h => hr h.2, h.reg]
  · unfold step
    rw [Mxu.live_accLhs, Mxu.live_pushed, h.live]; simp
  · unfold step
    rw [Mxu.read_accLhs_of_not_live _ _ _ _ _ _ fun r' => by rw [Mxu.live_pushed, h.live]; simp, Mxu.staged_eq,
      Mxu.reg_pushed_of_none _ _ _ _ _ (h.reg _)]
    rfl

/-- a later one adds its pass. -/
theorem holds_step_succ {q : Fin 2} {y : FVec F SLhs .f32} {n : ℕ} {s : Mxu F} (h : Holds q y (n + 1) s) (k : ℕ)
    (x : FVec F SLhs .bf16) (t : FVec F STl .bf16) :
    Holds q (addf y (FloatOps.mxuPass (DotDims.plain 64 256 256) x t)) (n + 2) (step k q s x t) := by
  refine ⟨fun r => ?_, fun R => ?_, ?_⟩
  · unfold step
    by_cases hr : r = regOf k
    · subst hr; exact Mxu.reg_accLhs _ _ _ _ _ _
    · rw [Mxu.reg_accLhs_ne _ _ _ _ _ _ _ _ fun h => hr h.2, Mxu.reg_pushed_ne _ _ _ _ _ _ _ fun h => hr h.2, h.reg]
  · unfold step
    rw [Mxu.live_accLhs, Mxu.live_pushed, h.live]; simp
  · unfold step
    rw [Mxu.read_accLhs_of_live _ _ _ _ _ _ fun r' => by
        rw [Mxu.live_pushed, h.live]; have := r'.isLt; simp [Mxu.row], Mxu.staged_eq,
      Mxu.reg_pushed_of_none _ _ _ _ _ (h.reg _), Mxu.read_pushed, h.read]
    rfl

/-- Step `n` on a unit that holds the sums of `n` steps leaves it holding those of `n + 1`. -/
theorem holds_step {X : Vec F SX .bf16} {W : Vec F SW .i8} {C : Vec F SS .bf16} {q : Fin 2} {n : ℕ} (hn : n < 51) {s : Mxu F}
    (h : Holds q (sums X W C q n hn.le) n s) :
    Holds q (sums X W C q (n + 1) hn) (n + 1) (step n q s (lhs X n hn) (rhs W C n hn q)) := by
  cases n with
  | zero => exact holds_step_zero h _ _ _
  | succ n => exact holds_step_succ h _ _ _

/-- Both units hold the sums of `n` steps. -/
def Inv (X : Vec F SX .bf16) (W : Vec F SW .i8) (C : Vec F SS .bf16) (n : ℕ) (hn : n ≤ 51) (s : Mxu F) : Prop :=
  ∀ q, Holds q (sums X W C q n hn) n s

/-- The unit popped twice is drained. -/
theorem drained_pops {X : Vec F SX .bf16} {W : Vec F SW .i8} {C : Vec F SS .bf16} {s : Mxu F} (h : Inv X W C 51 le_rfl s) :
    ((s.pop 0 0 64 fits).pop 1 0 64 fits).Drained := by
  refine ⟨fun q r => ?_, fun q R => ?_⟩
  · rw [Mxu.reg_pop, Mxu.reg_pop, (h q).reg]; rfl
  · rw [Mxu.live_pop, Mxu.live_pop, (h q).live]
    have h01 : q = 0 ∨ q = 1 := by fin_cases q <;> simp
    rcases h01 with rfl | rfl <;> simp <;> omega

end Cert.Proof.Loop

end
-- ==== Proof.Own.lean ====
/-
  A load and an unmasked store at the head of a program, for a memref held by what it reads as (`owns`).
-/
module

public import Idealize.ShloMosaic.Lib.Writes
public import Idealize.ShloMosaic.Lib.Memref

@[expose] public section

noncomputable section

namespace Cert.Proof.Own

open Idealize.ShloMosaic
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load through a rectangle continues at the rectangle of what the memref reads as. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k fun y => X (r.toLoadRect.idx y)) Q)
        -∗ wp frame (wpE defs 𝒱 c bd) E (.op (.load m r.toLoadRect hl) k) Q) := by
  unfold owns
  iintro ⟨%f, %hf, H⟩ Hk
  subst hf
  iapply (wp_load 𝒱 c bd E (r := r.toLoadRect) (hl := hl) (k := k) (f := f) (q := q) (View.setOn_subset_set _ _)) $$ H
  iintro H
  iapply Hk
  iexists f; isplitr; · ipureintro; rfl
  iexact H

/-- An unmasked store through a rectangle leaves the memref reading as the payload there, and as before elsewhere. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((∀ Y, ⌜(∀ y, Y (r.emb y) = w y) ∧ ∀ i, i ∉ r.set → Y i = X i⌝ -∗ owns c m fullShare Y
            -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store_writes₀ 𝒱 c bd E (hx := hx) (hm := hm) (k := k) (f := f) (m.view.set_slice_subset r)) $$ H
  iintro H
  ispecialize Hk $$ %(m.view.read Val (m.view.writes Val f [⟨r, w⟩]))
  iapply Hk
  · ipureintro
    exact ⟨fun y => View.read_writes_cons_emb m.view f r w [] y, fun i hi => View.read_writes_cons_miss m.view f ⟨r, w⟩ [] i hi⟩
  · iexists _; isplitr; · ipureintro; rfl
    iexact H

end Cert.Proof.Own

end
-- ==== Proof.Triple.lean ====
/-
  The triple of the loop body: run on the input blocks, it leaves the output stripe at `out` and the scratch at anything.
-/
module

public import proofs.«01_k».proof.Proof.Spec
public import proofs.«01_k».proof.Proof.Own

@[expose] public section

noncomputable section

namespace Cert.Proof.Loop

open Idealize.ShloMosaic Idealize.ShloMosaic.TcCoe
open Idealize.SL
open Idealize.SL.RA Idealize.SL.Sem Idealize.SL.ProofMode
open Idealize.SL.BI (sProp)
open scoped Idealize.SL.BI
open Idealize.SL.BI.BIBase Idealize.SL.BI.Laws
open Cert.Proof.Own

variable {F : FTy → Type} [FloatOps F]
variable {nD : ℕ} {τ : Topo} {sig : RefSig} {Λ : Labels}
variable {Ix : Type} [DecidableEq Ix] {Name : Type} [DecidableEq Name] {U : Type} [URA U] {Lvl : Type} [Preorder Lvl]
variable {defs : Defs nD τ sig (Elt F) Λ} (𝒱 : Variants) (c : Dev nD) (bd : Option 𝒱.V) (E : Set Name)
variable {Q : PUnit → sProp (MT nD τ sig Ix (Elt F) Name U Lvl)}

set_option quotPrecheck false in
local notation "𝒫" => Prog (TpuEff nD τ sig (Elt F) Λ .tc) PUnit

set_option quotPrecheck false in
local notation "WP" => wp frame (wpE defs 𝒱 (c : Thread nD τ) bd) E

set_option quotPrecheck false in
local notation "𝒮" => sProp (MT nD τ sig Ix (Elt F) Name U Lvl)

variable (pack : FVec F S8 .f32 → FVec F S8 .f32 → FVec F S16 .bf16)
  {arg1 : Memref sig .tc .vmem SX .bf16} {arg2 : Memref sig .tc .vmem SW .i8} {arg3 : Memref sig .tc .vmem SS .fp8e4m3}
  {arg4 : Memref sig .tc .smem SG .f32} {arg5 : Memref sig .tc .vmem SO .bf16} {harg5 : arg5.IsWhole}
  {arg6 : Memref sig .tc .vmem SS .bf16} {harg6 : arg6.IsWhole}
  {X : Vec F SX .bf16} {W : Vec F SW .i8} {S : Vec F SS .fp8e4m3} {G : Vec F SG .f32} {C : Vec F SS .bf16}

local notation "own" => owns (c : Thread nD τ)

theorem le51 : 0 + 51 ≤ 51 := by decide

/-- What is held between the steps of the first loop: the rows of the steps done hold their scales. -/
theorem wp_widen {k : ℕ} (hk : k < 51) {rest : 𝒫} :
    (iprop(own arg3 fullShare S ∗ (∃ d, ⌜∀ i, (i 0).val < 16 * k → d i = scratch pack S i⌝ ∗ own arg6 fullShare d)
        ∗ (iprop(own arg3 fullShare S ∗ (∃ d, ⌜∀ i, (i 0).val < 16 * (k + 1) → d i = scratch pack S i⌝ ∗ own arg6 fullShare d))
            -∗ WP rest Q)) : 𝒮)
      ⊢ WP (widen pack arg3 arg6 harg6 k hk rest) Q := by
  unfold widen
  iintro ⟨H3, ⟨%d, %hd, H6⟩, Hk⟩
  iapply (wp_load_owns 𝒱 (c : Thread nD τ) bd E) $$ H3; iintro H3
  iapply (wp_load_owns 𝒱 (c : Thread nD τ) bd E) $$ H3; iintro H3
  iapply (wp_load_owns 𝒱 (c : Thread nD τ) bd E) $$ H6; iintro H6
  iapply (wp_store_owns 𝒱 (c : Thread nD τ) bd E) $$ H6
  iintro %Y %hY H6
  iapply Hk
  isplitl [H3]; · iexact H3
  iexists Y
  isplitr
  · ipureintro
    intro i hi
    by_cases h : 16 * k ≤ (i 0).val
    · obtain ⟨hY, -⟩ := hY
      have h0 : (i 0).val / 16 = k := by omega
      have := hY (ix ⟨(i 0).val % 16, Nat.mod_lt _ (by decide)⟩ (i 1))
      have hix : (rSc k hk).emb (ix ⟨(i 0).val % 16, Nat.mod_lt _ (by decide)⟩ (i 1)) = i := by
        apply Rect.emb_eq_of_coords
        intro a; fin_cases a
        · show (i 0).val = 16 * k + 1 * ((i 0).val % 16); omega
        · show (i 1).val = 0 + 1 * (i 1).val; omega
      rw [hix] at this
      rw [this]
      subst h0
      rfl
    · rw [hY.2 i (Rect.not_mem_set_of_axis _ _ 0 (16 * k) 16 rfl rfl rfl (.inl (by omega)))]
      exact hd i (by omega)
  · iexact H6

/-- `n` steps of the first loop from step `k`. -/
theorem wp_widens (n : ℕ) : ∀ (k : ℕ) (hk : k + n ≤ 51) {rest : 𝒫},
    (iprop(own arg3 fullShare S ∗ (∃ d, ⌜∀ i, (i 0).val < 16 * k → d i = scratch pack S i⌝ ∗ own arg6 fullShare d)
        ∗ (iprop(own arg3 fullShare S ∗ (∃ d, ⌜∀ i, (i 0).val < 16 * (k + n) → d i = scratch pack S i⌝ ∗ own arg6 fullShare d))
            -∗ WP rest Q)) : 𝒮)
      ⊢ WP (widens pack arg3 arg6 harg6 n k hk rest) Q := by
  induction n with
  | zero =>
    intro k hk rest
    unfold widens
    iintro ⟨H3, H6, Hk⟩
    iapply Hk
    isplitl [H3]; · iexact H3
    iexact H6
  | succ n ih =>
    intro k hk rest
    unfold widens
    iintro ⟨H3, H6, Hk⟩
    have hk0 : k < 51 := by omega
    have hk1 : k + 1 + n ≤ 51 := by omega
    iapply (wp_widen 𝒱 c bd E pack hk0)
    isplitl [H3]; · iexact H3
    isplitl [H6]; · iexact H6
    iintro ⟨H3, H6⟩
    iapply (ih (k + 1) hk1)
    isplitl [H3]; · iexact H3
    isplitl [H6]; · iexact H6
    rw [show k + 1 + n = k + (n + 1) by omega]
    iexact Hk

/-- The first loop leaves the scratch at the scales. -/
theorem wp_widens_all {rest : 𝒫} :
    (iprop(own arg3 fullShare S ∗ (∃ d, own arg6 fullShare d)
        ∗ (iprop(own arg3 fullShare S ∗ own arg6 fullShare (scratch pack S)) -∗ WP rest Q)) : 𝒮)
      ⊢ WP (widens pack arg3 arg6 harg6 51 0 (by decide) rest) Q := by
  iintro ⟨H3, ⟨%d, H6⟩, Hk⟩
  iapply (wp_widens 𝒱 c bd E pack (S := S) 51 0 le51)
  isplitl [H3]; · iexact H3
  isplitl [H6]
  · iexists d; isplitr
    · ipureintro; intro i hi; omega
    · iexact H6
  iintro ⟨H3, ⟨%d', %hd, H6⟩⟩
  obtain rfl : d' = scratch pack S := funext fun i => hd i (by have : (i 0).val < 816 := (i 0).isLt; omega)
  iapply Hk
  isplitl [H3]; · iexact H3
  iexact H6

/-- One unit's half of a step, its register empty. -/
theorem wp_half {k : ℕ} (hk : k < 51) (q : Fin 2) {x : FVec F SLhs .bf16} {s : Mxu F} (hs : s.reg q (regOf k) = none) {rest : Mxu F → 𝒫} :
    (iprop(own arg2 fullShare W ∗ own arg6 fullShare C
        ∗ (iprop(own arg2 fullShare W ∗ own arg6 fullShare C) -∗ WP (rest (step k q s x (rhs W C k hk q))) Q)) : 𝒮)
      ⊢ WP (half arg2 arg6 k hk q x s rest) Q := by
  unfold half
  iintro ⟨H2, H6, Hk⟩
  iapply (wp_load_owns 𝒱 (c : Thread nD τ) bd E) $$ H2; iintro H2
  iapply (wp_load_owns 𝒱 (c : Thread nD τ) bd E) $$ H6; iintro H6
  iapply (wp_load_owns 𝒱 (c : Thread nD τ) bd E) $$ H6; iintro H6
  iapply (wp_load_owns 𝒱 (c : Thread nD τ) bd E) $$ H6; iintro H6
  iapply (wp_load_owns 𝒱 (c : Thread nD τ) bd E) $$ H6; iintro H6
  iapply (wp_load_owns 𝒱 (c : Thread nD τ) bd E) $$ H6; iintro H6
  iapply (wp_load_owns 𝒱 (c : Thread nD τ) bd E) $$ H6; iintro H6
  iapply (wp_load_owns 𝒱 (c : Thread nD τ) bd E) $$ H6; iintro H6
  iapply (wp_load_owns 𝒱 (c : Thread nD τ) bd E) $$ H6; iintro H6
  iapply (wp_assume 𝒱 (c : Thread nD τ) bd E (Mxu.pushOk_of_none _ _ _ _ hs))
  have e : rhs W C k hk q = tile (sub W (rW k hk q)) ![sub C (rPair k hk q 0 (by decide)), sub C (rPair k hk q 1 (by decide)),
      sub C (rPair k hk q 2 (by decide)), sub C (rPair k hk q 3 (by decide)), sub C (rPair k hk q 4 (by decide)),
      sub C (rPair k hk q 5 (by decide)), sub C (rPair k hk q 6 (by decide)), sub C (rPair k hk q 7 (by decide))] := by
    unfold rhs; congr 1; funext b; fin_cases b <;> rfl
  rw [e]
  iapply Hk
  isplitl [H2]; · iexact H2
  iexact H6

/-- A step of the second loop. -/
theorem wp_mul {k : ℕ} (hk : k < 51) {s : Mxu F} (hs : Inv X W C k hk.le s) {rest : Mxu F → 𝒫} :
    (iprop(own arg1 fullShare X ∗ own arg2 fullShare W ∗ own arg6 fullShare C
        ∗ (∀ s, ⌜Inv X W C (k + 1) hk s⌝ -∗ iprop(own arg1 fullShare X ∗ own arg2 fullShare W ∗ own arg6 fullShare C) -∗ WP (rest s) Q)) : 𝒮)
      ⊢ WP (mul arg1 arg2 arg6 k hk s rest) Q := by
  unfold mul
  iintro ⟨H1, H2, H6, Hk⟩
  iapply (wp_load_owns 𝒱 (c : Thread nD τ) bd E) $$ H1; iintro H1
  iapply (wp_half 𝒱 c bd E (W := W) (C := C) hk 0 ((hs 0).reg _))
  isplitl [H2]; · iexact H2
  isplitl [H6]; · iexact H6
  iintro ⟨H2, H6⟩
  have h0 : Holds 0 _ _ (step k 0 s (lhs X k hk) (rhs W C k hk 0)) := holds_step hk (hs 0)
  have h1 : Holds 1 _ _ (step k 0 s (lhs X k hk) (rhs W C k hk 0)) := holds_step_other (by decide) (hs 1) k _ _
  iapply (wp_half 𝒱 c bd E (W := W) (C := C) hk 1 (h1.reg _))
  isplitl [H2]; · iexact H2
  isplitl [H6]; · iexact H6
  iintro ⟨H2, H6⟩
  ispecialize Hk $$ %(step k 1 (step k 0 s (lhs X k hk) (rhs W C k hk 0)) (lhs X k hk) (rhs W C k hk 1))
  iapply Hk
  · ipureintro
    intro q
    fin_cases q
    · exact holds_step_other (by decide) h0 k _ _
    · exact holds_step hk h1
  isplitl [H1]; · iexact H1
  isplitl [H2]; · iexact H2
  iexact H6

/-- `n` steps of the second loop from step `k`. -/
theorem wp_muls (n : ℕ) : ∀ (k : ℕ) (hk : k + n ≤ 51) {s : Mxu F} (_ : Inv X W C k (by omega) s) {rest : Mxu F → 𝒫},
    (iprop(own arg1 fullShare X ∗ own arg2 fullShare W ∗ own arg6 fullShare C
        ∗ (∀ s, ⌜Inv X W C (k + n) hk s⌝ -∗ iprop(own arg1 fullShare X ∗ own arg2 fullShare W ∗ own arg6 fullShare C) -∗ WP (rest s) Q)) : 𝒮)
      ⊢ WP (muls arg1 arg2 arg6 n k hk s rest) Q := by
  induction n with
  | zero =>
    intro k hk s hs rest
    unfold muls
    iintro ⟨H1, H2, H6, Hk⟩
    ispecialize Hk $$ %s
    iapply Hk
    · ipureintro; exact hs
    isplitl [H1]; · iexact H1
    isplitl [H2]; · iexact H2
    iexact H6
  | succ n ih =>
    intro k hk s hs rest
    unfold muls
    iintro ⟨H1, H2, H6, Hk⟩
    have hk0 : k < 51 := by omega
    have hk1 : k + 1 + n ≤ 51 := by omega
    iapply (wp_mul 𝒱 c bd E hk0 hs)
    isplitl [H1]; · iexact H1
    isplitl [H2]; · iexact H2
    isplitl [H6]; · iexact H6
    iintro %s' %hs' ⟨H1, H2, H6⟩
    iapply (ih (k + 1) hk1 hs')
    isplitl [H1]; · iexact H1
    isplitl [H2]; · iexact H2
    isplitl [H6]; · iexact H6
    have e : k + 1 + n = k + (n + 1) := by omega
    simp only [e]
    iexact Hk

/-- The pop of a unit and the store of its half. -/
theorem wp_put (q : Fin 2) {s : Mxu F} {d : Vec F SO .bf16} {rest : Mxu F → 𝒫} :
    (iprop(own arg4 fullShare G ∗ own arg5 fullShare d
        ∗ (∀ Y, ⌜(∀ y, Y ((rO q).emb y) = scaled (s.read q 0 fits) (sub G rG (Shape.Idx.first posG)) y)
              ∧ ∀ i, i ∉ (rO q).set → Y i = d i⌝
            -∗ iprop(own arg4 fullShare G ∗ own arg5 fullShare Y) -∗ WP (rest (s.pop q 0 64 fits)) Q)) : 𝒮)
      ⊢ WP (put arg4 arg5 harg5 q s rest) Q := by
  unfold put
  iintro ⟨H4, H5, Hk⟩
  iapply (wp_load_owns 𝒱 (c : Thread nD τ) bd E) $$ H4; iintro H4
  iapply (wp_load_owns 𝒱 (c : Thread nD τ) bd E) $$ H5; iintro H5
  iapply (wp_store_owns 𝒱 (c : Thread nD τ) bd E) $$ H5
  iintro %Y %hY H5
  ispecialize Hk $$ %Y
  iapply Hk
  · ipureintro; exact hY
  isplitl [H4]; · iexact H4
  iexact H5

/-- THE TRIPLE of the body. -/
theorem wp_body :
    (iprop(own arg1 fullShare X ∗ own arg2 fullShare W ∗ own arg3 fullShare S ∗ own arg4 fullShare G
        ∗ (∃ d, own arg5 fullShare d) ∗ (∃ d, own arg6 fullShare d)
        ∗ (iprop(own arg1 fullShare X ∗ own arg2 fullShare W ∗ own arg3 fullShare S ∗ own arg4 fullShare G
            ∗ own arg5 fullShare (out X W (scratch pack S) G) ∗ (∃ d, own arg6 fullShare d)) -∗ Q ⟨⟩)) : 𝒮)
      ⊢ WP (body pack arg1 arg2 arg3 arg4 arg5 harg5 arg6 harg6) Q := by
  unfold body
  iintro ⟨H1, H2, H3, H4, ⟨%d5, H5⟩, H6, Hk⟩
  iapply (wp_widens_all 𝒱 c bd E pack (S := S))
  isplitl [H3]; · iexact H3
  isplitl [H6]; · iexact H6
  iintro ⟨H3, H6⟩
  iapply (wp_muls 𝒱 c bd E (X := X) (W := W) (C := scratch pack S) 51 0 le51 fun q => holds_init q)
  isplitl [H1]; · iexact H1
  isplitl [H2]; · iexact H2
  isplitl [H6]; · iexact H6
  iintro %s %hs ⟨H1, H2, H6⟩
  iapply (wp_put 𝒱 c bd E (G := G) 0)
  isplitl [H4]; · iexact H4
  isplitl [H5]; · iexact H5
  iintro %Y0 %hY0 ⟨H4, H5⟩
  iapply (wp_put 𝒱 c bd E (G := G) 1)
  isplitl [H4]; · iexact H4
  isplitl [H5]; · iexact H5
  iintro %Y1 %hY1 ⟨H4, H5⟩
  iapply (wp_assume 𝒱 (c : Thread nD τ) bd E (drained_pops hs))
  rw [(hs 0).read] at hY0
  rw [Mxu.read_pop_ne _ _ _ _ _ _ _ (.inl (by decide)), (hs 1).read] at hY1
  have hY : Y1 = out X W (scratch pack S) G := by
    funext i
    have hi : (i 1).val < 512 := (i 1).isLt
    by_cases h : (i 1).val < 256
    · rw [hY1.2 i (Rect.not_mem_set_of_axis _ _ 1 256 256 rfl rfl rfl (.inl h))]
      have e : (rO 0).emb (ix (i 0) ⟨(i 1).val % 256, Nat.mod_lt _ (by decide)⟩) = i := by
        apply Rect.emb_eq_of_coords
        intro a; fin_cases a
        · show (i 0).val = 0 + 1 * (i 0).val; omega
        · show (i 1).val = 256 * 0 + 1 * ((i 1).val % 256); omega
      have := hY0.1 (ix (i 0) ⟨(i 1).val % 256, Nat.mod_lt _ (by decide)⟩)
      rw [e] at this
      rw [this]
      exact (out_apply X W _ G i 0 (by show (i 1).val / 256 = 0; omega)).symm
    · have e : (rO 1).emb (ix (i 0) ⟨(i 1).val % 256, Nat.mod_lt _ (by decide)⟩) = i := by
        apply Rect.emb_eq_of_coords
        intro a; fin_cases a
        · show (i 0).val = 0 + 1 * (i 0).val; omega
        · show (i 1).val = 256 * 1 + 1 * ((i 1).val % 256); omega
      have := hY1.1 (ix (i 0) ⟨(i 1).val % 256, Nat.mod_lt _ (by decide)⟩)
      rw [e] at this
      rw [this]
      exact (out_apply X W _ G i 1 (by show (i 1).val / 256 = 1; omega)).symm
  subst hY
  iapply (le_wp_ret _ _ _ _ _)
  iapply Hk
  isplitl [H1]; · iexact H1
  isplitl [H2]; · iexact H2
  isplitl [H3]; · iexact H3
  isplitl [H4]; · iexact H4
  isplitl [H5]; · iexact H5
  iexists _; iexact H6

end Cert.Proof.Loop

end
-- ==== Proof.FrameKernel.lean ====
/-
  The run of `Kernel`, its result forgotten: the argument arrays end unchanged and every semaphore counter at zero.
-/
module

public import proofs.«01_k».proof.Proof.Gen.Kernel.Frame
public import proofs.«01_k».proof.Proof.Unrolled
public import proofs.«01_k».proof.Proof.Triple
public import Idealize.ShloMosaic.Lib.Claim

@[expose] public section

noncomputable section

namespace Cert.Proof.FrameKernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The windows whose contents after the run are not stated: the output's. -/
def fgt (w : Fin cfg0.W) : Bool := match w with
  | ⟨0, _⟩ | ⟨1, _⟩ | ⟨2, _⟩ | ⟨3, _⟩ => false
  | ⟨4, _⟩ => true

theorem fgt_0 : fgt 0 = false := rfl
theorem fgt_1 : fgt 1 = false := rfl
theorem fgt_2 : fgt 2 = false := rfl
theorem fgt_3 : fgt 3 = false := rfl
theorem fgt_4 : fgt 4 = true := rfl

/-- The proof data: each input's buffer at its block (past the array's end, a filler), the output's at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => Scalar.ofBits .fp8e4m3 0#8) (iblk m c 2 t)
    | ⟨3, _⟩ => iblk m c 3 t
    | ⟨4, _⟩ => fun _ => Scalar.ofBits .bf16 0#16
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = win0_1.fill (grid0.coords t) (fun _ => (0#8 : BitVec 8)) (iblk m c 1 t) := by dsimp only [dats]
theorem after_2 (c : Dev nD) (t : Fin cfg0.N) :
    (dats m 0 c).after 2 t = win0_2.fill (grid0.coords t) (fun _ => Scalar.ofBits .fp8e4m3 0#8) (iblk m c 2 t) := by
  dsimp only [dats]
theorem after_3 (c : Dev nD) (t : Fin cfg0.N) : (dats m 0 c).after 3 t = iblk m c 3 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before_3 (c : Dev nD) (t : Fin cfg0.N) (d) : (dats m 0 c).before 3 t d = iblk m c 3 t :=
  before0_3_of m (dats m 0 c) (A_eq m c 3) (after_3 m c) t d

theorem defs₀_row (t : Fin cfg0.N) :
    defs₀ (F := F) .tc cfg0.body (cfg0.bodyArgs t (cfg0.slots t)) = bodyAt0 t := by
  unfold defs₀; rw [Defs.onTc_tc]

/-- The scratch buffer, held at some contents, as the pipeline's rest holds it. -/
theorem scratch_back (c : Dev nD) : (iprop(∃ d, owns (c : Thread nD τ) (Memref.whole cc0_scratch0) fullShare d) : sProp 𝕄)
    ⊢ iprop(∃ f : Buf (Elt F) ((c : Thread nD τ).loc cc0_scratch0), ((c : Thread nD τ).loc cc0_scratch0) ↦{fullShare} f) := by
  simp only [owns_whole_eq]
  iintro ⟨%d, %f, %hf, H⟩
  iexists f; iexact H

/-- The body at any point. -/
theorem body_obligation (c : Dev nD) :
    BodyObligationLoose (dats (F := F) m 0 c) (defs₀ (F := F)) Variants.none () Set.univ fgt := fun t => by
  rw [bigSep_W0, bigSep_W0, defs₀_row]
  simp only [fgt_0, fgt_1, fgt_2, fgt_3, fgt_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold bodyAt0 Pipeline.ΦA
  rw [cc0_eq, scopedRest0_eq]
  iintro ⟨⟨⟨%f6, H6⟩, Hρ⟩, Ho, ⟨%d0, H0⟩, ⟨%d1, H1⟩, ⟨%d2, H2⟩, ⟨%d3, H3⟩, H4⟩
  rw [before_0, before_1, before_2, before_3]
  iapply (Cert.Proof.Loop.wp_body Variants.none c none Set.univ pack)
  isplitl [H0]; · iexact H0
  isplitl [H1]; · iexact H1
  isplitl [H2]; · iexact H2
  isplitl [H3]; · iexact H3
  isplitl [H4]; · iexact H4
  isplitl [H6]
  · iexists f6; rw [owns_whole_eq]; iexists f6; isplitr; · ipureintro; rfl
    iexact H6
  iintro ⟨H0, H1, H2, H3, H4, H6⟩
  isplitl [H6 Hρ]
  · isplitl [H6]
    · iapply (scratch_back c); iexact H6
    iexact Hρ
  isplitl [Ho]; · iexact Ho
  isplitl [H0]
  · change _ ⊢ owns (c : Thread nD τ) (st0_0 t) fullShare ((dats m 0 c).after 0 t)
    rw [after_0]; try iexact H0
  isplitl [H1]
  · iexists d1
    change _ ⊢ owns (c : Thread nD τ) (st0_1 t) fullShare (win0_1.fill (grid0.coords t) d1 (win0_1.cut (grid0.coords t) ((dats m 0 c).after 1 t)))
    rw [after_1, Window.cut_fill]; try iexact H1
  isplitl [H2]
  · iexists d2
    change _ ⊢ owns (c : Thread nD τ) (st0_2 t) fullShare (win0_2.fill (grid0.coords t) d2 (win0_2.cut (grid0.coords t) ((dats m 0 c).after 2 t)))
    rw [after_2, Window.cut_fill]; try iexact H2
  isplitl [H3]
  · change _ ⊢ owns (c : Thread nD τ) (st0_3 t) fullShare ((dats m 0 c).after 3 t)
    rw [after_3]; try iexact H3
  iexists _; iexact H4

set_option backward.isDefEq.respectTransparency.types false in
/-- The run: the arrays at what the library computes of the proof data, the result forgotten, and the counters at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME of `Kernel`, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 1 rfl).trans ((A_eq m c 1).trans (V_main_arg1 m c)),
      (h.1.arr_in c 2 rfl).trans ((A_eq m c 2).trans (V_main_arg2 m c)),
      ((h.1 c).2 main_arg3 (Pipeline.mem_restRefs_of main_arg3 (by decide) (by decide))).trans (V_main_arg3 m c)⟩, h.2⟩) (run_main m ρ)

end Cert.Proof.FrameKernel

end
-- ==== Proof.FrameKernelIdeal.lean ====
/-
  The run of `KernelIdeal`, its result forgotten: the argument arrays end unchanged and every semaphore counter at zero.
-/
module

public import proofs.«01_k».proof.Proof.Gen.KernelIdeal.Frame
public import proofs.«01_k».proof.Proof.Unrolled
public import proofs.«01_k».proof.Proof.Triple
public import Idealize.ShloMosaic.Lib.Claim

@[expose] public section

noncomputable section

namespace Cert.Proof.FrameKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents after the run are not stated: the output's. -/
def fgt (w : Fin cfg0.W) : Bool := match w with
  | ⟨0, _⟩ | ⟨1, _⟩ | ⟨2, _⟩ | ⟨3, _⟩ => false
  | ⟨4, _⟩ => true

theorem fgt_0 : fgt 0 = false := rfl
theorem fgt_1 : fgt 1 = false := rfl
theorem fgt_2 : fgt 2 = false := rfl
theorem fgt_3 : fgt 3 = false := rfl
theorem fgt_4 : fgt 4 = true := rfl

/-- The proof data: each input's buffer at its block (past the array's end, a filler), the output's at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => Scalar.ofBits .fp8e4m3 0#8) (iblk m c 2 t)
    | ⟨3, _⟩ => iblk m c 3 t
    | ⟨4, _⟩ => fun _ => Scalar.ofBits .bf16 0#16
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = win0_1.fill (grid0.coords t) (fun _ => (0#8 : BitVec 8)) (iblk m c 1 t) := by dsimp only [dats]
theorem after_2 (c : Dev nD) (t : Fin cfg0.N) :
    (dats m 0 c).after 2 t = win0_2.fill (grid0.coords t) (fun _ => Scalar.ofBits .fp8e4m3 0#8) (iblk m c 2 t) := by
  dsimp only [dats]
theorem after_3 (c : Dev nD) (t : Fin cfg0.N) : (dats m 0 c).after 3 t = iblk m c 3 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before_3 (c : Dev nD) (t : Fin cfg0.N) (d) : (dats m 0 c).before 3 t d = iblk m c 3 t :=
  before0_3_of m (dats m 0 c) (A_eq m c 3) (after_3 m c) t d

theorem defs₀_row (t : Fin cfg0.N) :
    defs₀ (F := F) .tc cfg0.body (cfg0.bodyArgs t (cfg0.slots t)) = bodyAt0 t := by
  unfold defs₀; rw [Defs.onTc_tc]

/-- The scratch buffer, held at some contents, as the pipeline's rest holds it. -/
theorem scratch_back (c : Dev nD) : (iprop(∃ d, owns (c : Thread nD τ) (Memref.whole cc0_scratch0) fullShare d) : sProp 𝕄)
    ⊢ iprop(∃ f : Buf (Elt F) ((c : Thread nD τ).loc cc0_scratch0), ((c : Thread nD τ).loc cc0_scratch0) ↦{fullShare} f) := by
  simp only [owns_whole_eq]
  iintro ⟨%d, %f, %hf, H⟩
  iexists f; iexact H

/-- The body at any point. -/
theorem body_obligation (c : Dev nD) :
    BodyObligationLoose (dats (F := F) m 0 c) (defs₀ (F := F)) Variants.none () Set.univ fgt := fun t => by
  rw [bigSep_W0, bigSep_W0, defs₀_row]
  simp only [fgt_0, fgt_1, fgt_2, fgt_3, fgt_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold bodyAt0 Pipeline.ΦA
  rw [cc0_eq, scopedRest0_eq]
  iintro ⟨⟨⟨%f6, H6⟩, Hρ⟩, Ho, ⟨%d0, H0⟩, ⟨%d1, H1⟩, ⟨%d2, H2⟩, ⟨%d3, H3⟩, H4⟩
  rw [before_0, before_1, before_2, before_3]
  iapply (Cert.Proof.Loop.wp_body Variants.none c none Set.univ pack)
  isplitl [H0]; · iexact H0
  isplitl [H1]; · iexact H1
  isplitl [H2]; · iexact H2
  isplitl [H3]; · iexact H3
  isplitl [H4]; · iexact H4
  isplitl [H6]
  · iexists f6; rw [owns_whole_eq]; iexists f6; isplitr; · ipureintro; rfl
    iexact H6
  iintro ⟨H0, H1, H2, H3, H4, H6⟩
  isplitl [H6 Hρ]
  · isplitl [H6]
    · iapply (scratch_back c); iexact H6
    iexact Hρ
  isplitl [Ho]; · iexact Ho
  isplitl [H0]
  · change _ ⊢ owns (c : Thread nD τ) (st0_0 t) fullShare ((dats m 0 c).after 0 t)
    rw [after_0]; try iexact H0
  isplitl [H1]
  · iexists d1
    change _ ⊢ owns (c : Thread nD τ) (st0_1 t) fullShare (win0_1.fill (grid0.coords t) d1 (win0_1.cut (grid0.coords t) ((dats m 0 c).after 1 t)))
    rw [after_1, Window.cut_fill]; try iexact H1
  isplitl [H2]
  · iexists d2
    change _ ⊢ owns (c : Thread nD τ) (st0_2 t) fullShare (win0_2.fill (grid0.coords t) d2 (win0_2.cut (grid0.coords t) ((dats m 0 c).after 2 t)))
    rw [after_2, Window.cut_fill]; try iexact H2
  isplitl [H3]
  · change _ ⊢ owns (c : Thread nD τ) (st0_3 t) fullShare ((dats m 0 c).after 3 t)
    rw [after_3]; try iexact H3
  iexists _; iexact H4

set_option backward.isDefEq.respectTransparency.types false in
/-- The run: the arrays at what the library computes of the proof data, the result forgotten, and the counters at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME of `KernelIdeal`, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 1 rfl).trans ((A_eq m c 1).trans (V_main_arg1 m c)),
      (h.1.arr_in c 2 rfl).trans ((A_eq m c 2).trans (V_main_arg2 m c)),
      ((h.1 c).2 main_arg3 (Pipeline.mem_restRefs_of main_arg3 (by decide) (by decide))).trans (V_main_arg3 m c)⟩, h.2⟩) (run_main m ρ)

end Cert.Proof.FrameKernelIdeal

end
-- ==== Proof.Codes.lean ====
/-
  The e2m1 codes. A byte holds two; the kernel and the reference each make a bf16 pattern of one by integer arithmetic. Both
  patterns are functions of the code, and the reference's value is twice the kernel's.
-/
module

public import proofs.«01_k».proof.Proof.Spec
public import Idealize.ShloMosaic.Lib.IdealHost
public import Mathlib.Tactic.FinCases
public import Mathlib.Tactic.NormNum

@[expose] public section

noncomputable section

namespace Cert.Proof.Loop

open Idealize.ShloMosaic

/-- Code `p` of a byte: 0 the low four bits, 1 the high four. -/
def code (b : BitVec 8) (p : Fin 2) : Fin 16 := (b.extractLsb' (4 * p.val) 4).toFin

/-- The kernel's pattern of a code in a word, of one word. -/
def kerPattern (c : BitVec 32) : BitVec 32 :=
  IntOp.ori (IntOp.shli .vector (Scalar.select (IntOp.cmpi .sge (IntOp.andi c 7#32) 2#32) (IntOp.addi (IntOp.andi c 7#32) 252#32)
      (IntOp.muli (IntOp.andi c 7#32) 252#32)) 6#32)
    (IntOp.shli .vector (IntOp.andi c 8#32) 12#32)

/-- The kernel's word of two patterns, of one byte. -/
def word (b : BitVec 8) : BitVec 32 :=
  IntOp.ori (kerPattern (IntOp.andi (b.setWidth 32) 15#32))
    (IntOp.shli .vector (kerPattern (IntOp.shrsi .vector (b.setWidth 32) 4#32)) 16#32)

theorem words_apply (w : Vec Ideal SByte .i8) (i : SByte.Idx) : words w i = word (w i) := rfl

/-- The reference's pattern of a code in a word, of one word. -/
def refPattern (c : BitVec 32) : BitVec 16 :=
  (IntOp.ori (IntOp.shli .vector (Scalar.select (IntOp.cmpi .sge (IntOp.andi c 7#32) 2#32) (IntOp.addi (IntOp.andi c 7#32) 254#32)
      (Scalar.select (IntOp.cmpi .eq (IntOp.andi c 7#32) 1#32) 254#32 0#32)) 6#32)
    (IntOp.shli .vector (IntOp.andi c 8#32) 12#32)).setWidth 16

/-- The reference's code of the low four bits of a byte, and of the high four, in a word. -/
def refCode (b : BitVec 8) : Fin 2 → BitVec 32
  | 0 => IntOp.andi (b.setWidth 32) 15#32
  | 1 => IntOp.shrsi .vector (b.setWidth 32) 4#32

/-- The kernel's sixteen patterns. -/
def kerTable : Fin 16 → BitVec 16 :=
  ![0x0000#16, 0x3F00#16, 0x3F80#16, 0x3FC0#16, 0x4000#16, 0x4040#16, 0x4080#16, 0x40C0#16,
    0x8000#16, 0xBF00#16, 0xBF80#16, 0xBFC0#16, 0xC000#16, 0xC040#16, 0xC080#16, 0xC0C0#16]

/-- The reference's sixteen patterns. -/
def refTable : Fin 16 → BitVec 16 :=
  ![0x0000#16, 0x3F80#16, 0x4000#16, 0x4040#16, 0x4080#16, 0x40C0#16, 0x4100#16, 0x4140#16,
    0x8000#16, 0xBF80#16, 0xC000#16, 0xC040#16, 0xC080#16, 0xC0C0#16, 0xC100#16, 0xC140#16]

/-- The kernel's half of a word is the pattern of the byte's code. -/
theorem word_half : ∀ (b : BitVec 8) (p : Fin 2), (word b).extractLsb' (16 * p.val) 16 = kerTable (code b p) := by
  decide +kernel

/-- The reference's pattern is that of the byte's code. -/
theorem refPattern_code : ∀ (b : BitVec 8) (p : Fin 2), refPattern (refCode b p) = refTable (code b p) := by
  decide +kernel

/-- The value of code `n`, as the kernel's pattern has it. -/
def value (n : Fin 16) : EReal := Ideal.ofBits .bf16 (kerTable n)

/-- The reference's value of a code is twice the kernel's. -/
theorem refTable_value (n : Fin 16) : Ideal.ofBits .bf16 (refTable n) = ((2 : ℝ) : EReal) * value n := by
  unfold value
  fin_cases n <;> simp [refTable, kerTable, Ideal.ofBits, Ideal.ieee, ← EReal.coe_mul] <;> norm_num

end Cert.Proof.Loop

end
-- ==== Proof.Value.lean ====
/-
  The output stripe over the extended reals: one entry is a sum over the steps and the tile rows of products of the left
  operand, the code's value and its scale, times the global scale. It reads one column of the bytes and of the scales.
-/
module

public import proofs.«01_k».proof.Proof.Codes
public import proofs.«01_k».proof.Proof.Unrolled
public import Idealize.ShloMosaic.Lib.MatmulPlain
public import Idealize.ShloMosaic.Lib.BitcastPair
public import Idealize.ShloMosaic.Lib.Pipeline.Value

@[expose] public section

noncomputable section

namespace Cert.Proof.Loop

open Idealize.ShloMosaic Idealize.ShloMosaic.ValueIdx
open scoped BigOperators

/-- Two rank-two indices with equal coordinates are equal. -/
theorem ix_ext {m n : ℕ} {i j : (⟨2, ![m, n]⟩ : Shape).Idx} (h0 : (i 0).val = (j 0).val) (h1 : (i 1).val = (j 1).val) : i = j := by
  funext a; apply Fin.ext
  match a with
  | ⟨0, _⟩ => exact h0
  | ⟨1, _⟩ => exact h1

/-- A pass of the unit is the exact product: entry (r, c) is the sum over the tile rows. -/
theorem mxuPass_apply (l : FVec Ideal SLhs .bf16) (r : FVec Ideal STl .bf16) (i : Fin 64) (j : Fin 256) :
    FloatOps.mxuPass (F := Ideal) (DotDims.plain 64 256 256) l r (ix i j) = ∑ k : Fin 256, l (ix i k) * r (ix k j) := by
  rw [Ideal.mxuPass_def, Ideal.mxuPass, ← Equiv.sum_comp (DotDims.plainContr 64 256 256).symm]
  refine Finset.sum_congr rfl fun k _ => ?_
  have hk := contrEquiv1_symm_val _ 256 (DotDims.plain_contr_rank 64 256 256) (DotDims.plain_contr_size 64 256 256) k
  have el : (DotDims.plain 64 256 256).lhsIdx (ix i j) ((DotDims.plainContr 64 256 256).symm k) = ix i k := ix_ext rfl hk
  have er : (DotDims.plain 64 256 256).rhsIdx (ix i j) ((DotDims.plainContr 64 256 256).symm k) = ix k j := ix_ext hk rfl
  rw [el, er]

/-- Row `k` of the decoded tile is code `k % 2` of byte row `k / 2`. -/
theorem decode_apply (w : Vec Ideal SByte .i8) (k c : Fin 256) :
    decode w (ix k c) = value (code (w (ix ⟨k.val / 2, by omega⟩ c)) ⟨k.val % 2, by omega⟩) := by
  unfold decode value
  show FloatOps.ofBits (F := Ideal) .bf16 (bitcast STl 16 (words (F := Ideal) w) _ (ix k c)) = _
  rw [bitcast_32_16, words_apply, ← word_half]
  show Ideal.ofBits .bf16 _ = _
  refine congrArg (Ideal.ofBits .bf16) ?_
  refine congrArg (fun b => (word (w b)).extractLsb' (16 * (k.val % 2)) 16) ?_
  exact ix_ext rfl rfl

/-- A pair of rows eight times, at an index: the row of the same parity. -/
theorem eight_apply (r : FVec Ideal SPair .bf16) (k : Fin 16) (c : Fin 256) :
    eight r (ix k c) = r (ix ⟨k.val % 2, by omega⟩ c) :=
  concatenate_ofFn_apply (t := SWord) (s₁ := SPair) 0 (N := 8) (fun _ => r) concatPair rfl 2 rfl (ix k c) ⟨k.val / 2, by omega⟩ rfl
    (ix ⟨k.val % 2, by omega⟩ c) rfl fun b hb => by match b with | ⟨0, _⟩ => exact absurd rfl hb | ⟨1, _⟩ => rfl

/-- The scales of a tile, at an index: row `k` is row `k % 2` of pair `k / 32`. -/
theorem scales_apply (r : Fin 8 → FVec Ideal SPair .bf16) (k c : Fin 256) :
    scales r (ix k c) = r ⟨k.val / 32, by omega⟩ (ix ⟨k.val % 2, by omega⟩ c) := by
  refine (concatenate_ofFn_apply (t := STl) (s₁ := SWord) 0 (N := 16) (fun n => eight (r ⟨n.val / 2, by omega⟩)) concatWord rfl 16 rfl
    (ix k c) ⟨k.val / 16, by omega⟩ rfl
    (ix ⟨k.val % 16, by omega⟩ c) rfl fun b hb => by match b with | ⟨0, _⟩ => exact absurd rfl hb | ⟨1, _⟩ => rfl).trans ?_
  rw [eight_apply]
  have h1 : (⟨k.val / 16 / 2, by omega⟩ : Fin 8) = ⟨k.val / 32, by omega⟩ := Fin.ext (by simp; omega)
  have h2 : (⟨k.val % 16 % 2, by omega⟩ : Fin 2) = ⟨k.val % 2, by omega⟩ := Fin.ext (by simp)
  show r ⟨k.val / 16 / 2, _⟩ (ix ⟨k.val % 16 % 2, _⟩ c) = _
  rw [h1, h2]

/-- The scale scratch, at an index: row `16 k + 2 b + p` is scale row `8 k + b` of half `p`. -/
theorem scratch_apply (S : Vec Ideal SS .fp8e4m3) (k : Fin 51) (b : Fin 8) (p : Fin 2) (c : Fin 512) (i : SS.Idx)
    (h0 : (i 0).val = 16 * k.val + 2 * b.val + p.val) (h1 : (i 1).val = c.val) :
    scratch Cert.KernelIdeal.pack S i = S (ix ⟨p.val * 408 + 8 * k.val + b.val, by omega⟩ c) := by
  have hi : (i 0).val < 816 := (i 0).isLt
  let lo : FVec Ideal S8 .fp8e4m3 := sub S (rLo ((i 0).val / 16) (by omega))
  let hi : FVec Ideal S8 .fp8e4m3 := sub S (rHi ((i 0).val / 16) (by omega))
  refine (congrFun (shapeCast_self (s := S16) (Cert.KernelIdeal.pack (F := Ideal) (extf .f32 lo (by decide)) (extf .f32 hi (by decide))) _)
    (ix ⟨(i 0).val % 16, Nat.mod_lt _ (by decide)⟩ (i 1))).trans ?_
  unfold Cert.KernelIdeal.pack interleaveRows
  have hp : p.val < 2 := p.isLt
  by_cases h : p.val = 0
  · refine (if_pos ?_).trans ?_
    · show (i 0).val % 16 % 2 = 0
      omega
    · refine congrArg S (ix_ext ?_ ?_)
      · show 8 * ((i 0).val / 16) + 1 * ((i 0).val % 16 / 2) = p.val * 408 + 8 * k.val + b.val
        omega
      · show 0 + 1 * (i 1).val = c.val
        omega
  · refine (if_neg ?_).trans ?_
    · show ¬ (i 0).val % 16 % 2 = 0
      omega
    · refine congrArg S (ix_ext ?_ ?_)
      · show 408 + 8 * ((i 0).val / 16) + 1 * ((i 0).val % 16 / 2) = p.val * 408 + 8 * k.val + b.val
        omega
      · show 0 + 1 * (i 1).val = c.val
        omega

/-- Step `k`'s term at tile row `j`: the left operand's entry times the code's value times its scale, from a row of the left
    operand, a column of the bytes and a column of the scales. -/
def term (x : Fin 13056 → EReal) (w : Fin 6528 → BitVec 8) (s : Fin 816 → EReal) (k : Fin 51) (j : Fin 256) : EReal :=
  x ⟨256 * k.val + j.val, by omega⟩ * (value (code (w ⟨128 * k.val + j.val / 2, by omega⟩) ⟨j.val % 2, by omega⟩)
    * s ⟨j.val % 2 * 408 + 8 * k.val + j.val / 32, by omega⟩)

/-- What a step adds to an entry of the output: the sum of its terms. -/
theorem pass_apply (X : Vec Ideal SX .bf16) (W : Vec Ideal SW .i8) (S : Vec Ideal SS .fp8e4m3) (k : Fin 51) (r : Fin 64) (q : Fin 2)
    (c : Fin 256) (d : Fin 512) (hd : d.val = 256 * q.val + c.val) :
    pass X W (scratch Cert.KernelIdeal.pack S) q k.val k.isLt (ix r c)
      = ∑ j : Fin 256, term (fun j => X (ix r j)) (fun j => W (ix j d)) (fun j => S (ix j d)) k j := by
  unfold pass
  rw [mxuPass_apply]
  refine Finset.sum_congr rfl fun j _ => ?_
  unfold lhs rhs tile term
  rw [shapeCast_self]
  show sub X (rX k.val k.isLt) (ix r j) * (decode (F := Ideal) _ (ix j c) * scales (F := Ideal) _ (ix j c)) = _
  rw [decode_apply, scales_apply]
  refine congrArg₂ (· * ·) (congrArg X (ix_ext ?_ ?_)) (congrArg₂ (· * ·) (congrArg (fun b => value (code b _)) (congrArg W (ix_ext ?_ ?_))) ?_)
  · show 0 + 1 * r.val = r.val
    omega
  · show 256 * k.val + 1 * j.val = 256 * k.val + j.val
    omega
  · show 128 * k.val + 1 * (j.val / 2) = 128 * k.val + j.val / 2
    omega
  · show 256 * q.val + 1 * c.val = d.val
    omega
  · refine scratch_apply S k ⟨j.val / 32, by omega⟩ ⟨j.val % 2, by omega⟩ d _ ?_ ?_
    · show 16 * k.val + 2 * (j.val / 32) + 1 * (j.val % 2) = 16 * k.val + 2 * (j.val / 32) + j.val % 2
      omega
    · show 256 * q.val + 1 * c.val = d.val
      omega

/-- The sums after `n` steps are the sums over the first `n` steps. -/
theorem sums_apply (X : Vec Ideal SX .bf16) (W : Vec Ideal SW .i8) (C : Vec Ideal SS .bf16) (q : Fin 2) (i : SLhs.Idx) :
    (n : ℕ) → (h : n ≤ 51) → sums X W C q n h i = ∑ k : Fin n, pass X W C q k.val (by omega) i
  | 0, _ => Ideal.ofBits_zero_f32.trans (Fin.sum_univ_zero _).symm
  | 1, _ => (Fin.sum_univ_one fun k : Fin 1 => pass X W C q k.val (by omega) i).symm
  | n + 2, h => by
      rw [Fin.sum_univ_castSucc]
      refine congrArg (· + pass X W C q (n + 1) h i) ?_
      exact sums_apply X W C q i (n + 1) _

/-- An entry of the output stripe, before the global scale. -/
def column (x : Fin 13056 → EReal) (w : Fin 6528 → BitVec 8) (s : Fin 816 → EReal) : EReal :=
  ∑ k : Fin 51, ∑ j : Fin 256, term x w s k j

/-- The output stripe, at an index: row `r` of the left operand against one column, times the global scale. -/
theorem out_ideal (X : Vec Ideal SX .bf16) (W : Vec Ideal SW .i8) (S : Vec Ideal SS .fp8e4m3) (G : Vec Ideal SG .f32) (i : SO.Idx) :
    out X W (scratch Cert.KernelIdeal.pack S) G i
      = column (fun j => X (ix (i 0) j)) (fun j => W (ix j (i 1))) (fun j => S (ix j (i 1))) * G (Shape.Idx.first posG) := by
  have hi : (i 1).val < 512 := (i 1).isLt
  rw [out_apply X W _ G i ⟨(i 1).val / 256, by omega⟩ rfl]
  show sums X W _ _ 51 _ (ix (i 0) _) * G _ = _
  refine congrArg₂ (· * ·) ?_ (congrArg G ?_)
  · rw [sums_apply]
    refine Finset.sum_congr rfl fun k _ => ?_
    exact pass_apply X W S k (i 0) ⟨(i 1).val / 256, by omega⟩ ⟨(i 1).val % 256, by omega⟩ (i 1) (by
      show (i 1).val = 256 * ((i 1).val / 256) + (i 1).val % 256
      omega)
  · funext a
    match a with
    | ⟨0, _⟩ => exact Subsingleton.elim (α := Fin 1) _ _

end Cert.Proof.Loop

end
-- ==== Proof.Sums.lean ====
/-
  The kernel's sum and the reference's, of one row of the left operand and one column. The kernel's left operand has the two
  halves of the row interleaved; its sum over steps and tile rows is the sum over byte rows of the two codes' terms. The
  reference decodes to twice the value and halves the global scale.
-/
module

public import proofs.«01_k».proof.Proof.Value

@[expose] public section

noncomputable section

namespace Cert.Proof.Loop

open Idealize.ShloMosaic
open scoped BigOperators

/-- The term of code `p` of byte row `k`. -/
def codeTerm (x : Fin 13056 → EReal) (w : Fin 6528 → BitVec 8) (s : Fin 816 → EReal) (k : Fin 6528) (p : Fin 2) : EReal :=
  x ⟨p.val * 6528 + k.val, by omega⟩ * (value (code (w k) p) * s ⟨p.val * 408 + k.val / 16, by omega⟩)

/-- The row with its two halves interleaved. -/
def interleave (x : Fin 13056 → EReal) : Fin 13056 → EReal := fun i => x ⟨i.val % 2 * 6528 + i.val / 2, by omega⟩

/-- The kernel's sum is the sum over byte rows of the low codes' terms and of the high codes'. -/
theorem column_interleave (x : Fin 13056 → EReal) (w : Fin 6528 → BitVec 8) (s : Fin 816 → EReal) :
    column (interleave x) w s = (∑ k, codeTerm x w s k 0) + ∑ k, codeTerm x w s k 1 := by
  let T : Fin 13056 → EReal := fun i => codeTerm x w s ⟨i.val / 2, by omega⟩ ⟨i.val % 2, by omega⟩
  have h1 : column (interleave x) w s = ∑ i : Fin (51 * 256), T i := by
    rw [← Equiv.sum_comp finProdFinEquiv, Fintype.sum_prod_type]
    refine Finset.sum_congr rfl fun k _ => Finset.sum_congr rfl fun j _ => ?_
    have hv : (finProdFinEquiv (k, j)).val = 256 * k.val + j.val := by simp [finProdFinEquiv]; omega
    unfold term interleave
    show _ = codeTerm x w s _ _
    unfold codeTerm
    have e2 : (256 * k.val + j.val) % 2 = j.val % 2 := by omega
    have e3 : (256 * k.val + j.val) / 2 = 128 * k.val + j.val / 2 := by omega
    have e4 : j.val % 2 * 408 + 8 * k.val + j.val / 32 = j.val % 2 * 408 + (128 * k.val + j.val / 2) / 16 := by omega
    simp only [hv, e2, e3, e4]
  have h2 : ∑ i : Fin (51 * 256), T i = ∑ i : Fin (6528 * 2), T i := rfl
  rw [h1, h2, ← Equiv.sum_comp finProdFinEquiv, Fintype.sum_prod_type, ← Finset.sum_add_distrib]
  refine Finset.sum_congr rfl fun k _ => ?_
  rw [Fin.sum_univ_two]
  have hv : ∀ p : Fin 2, (finProdFinEquiv (k, p)).val = 2 * k.val + p.val := fun p => by simp [finProdFinEquiv]; omega
  have hT : ∀ p : Fin 2, T (finProdFinEquiv (k, p)) = codeTerm x w s k p := fun p => by
    have e1 : (finProdFinEquiv (k, p)).val / 2 = k.val := by rw [hv]; omega
    have e2 : (finProdFinEquiv (k, p)).val % 2 = p.val := by rw [hv]; omega
    exact congrArg₂ (codeTerm x w s) (Fin.ext e1) (Fin.ext e2)
  rw [hT, hT]

/-- Twice a sum is the sum of the doubles. -/
theorem two_mul_sum {n : ℕ} (f : Fin n → EReal) : ∑ k, ((2 : ℝ) : EReal) * f k = ((2 : ℝ) : EReal) * ∑ k, f k := by
  have h0 : (0 : EReal) ≤ ((2 : ℝ) : EReal) := by exact_mod_cast (by norm_num : (0 : ℝ) ≤ 2)
  let φ : EReal →+ EReal := ⟨⟨fun a => ((2 : ℝ) : EReal) * a, mul_zero _⟩,
    fun a b => EReal.left_distrib_of_nonneg_of_ne_top h0 (EReal.coe_ne_top _) a b⟩
  exact (map_sum φ f _).symm

/-- The reference's term of code `p` of byte row `k`: with the code's value doubled. -/
def refTerm (x : Fin 13056 → EReal) (w : Fin 6528 → BitVec 8) (s : Fin 816 → EReal) (k : Fin 6528) (p : Fin 2) : EReal :=
  x ⟨p.val * 6528 + k.val, by omega⟩ * (Ideal.ofBits .bf16 (refTable (code (w k) p)) * s ⟨p.val * 408 + k.val / 16, by omega⟩)

theorem refTerm_eq (x : Fin 13056 → EReal) (w : Fin 6528 → BitVec 8) (s : Fin 816 → EReal) (k : Fin 6528) (p : Fin 2) :
    refTerm x w s k p = ((2 : ℝ) : EReal) * codeTerm x w s k p := by
  unfold refTerm codeTerm
  rw [refTable_value, mul_assoc, mul_left_comm]

/-- The reference's value of an entry is the kernel's. -/
theorem column_eq (x : Fin 13056 → EReal) (w : Fin 6528 → BitVec 8) (s : Fin 816 → EReal) (g : EReal) :
    ((∑ k, refTerm x w s k 0) + ∑ k, refTerm x w s k 1) * (g * Ideal.ofBits .f32 0x3F000000#32)
      = column (interleave x) w s * g := by
  have h0 : (0 : EReal) ≤ ((2 : ℝ) : EReal) := by exact_mod_cast (by norm_num : (0 : ℝ) ≤ 2)
  have hh : Ideal.ofBits .f32 0x3F000000#32 = ((1 / 2 : ℝ) : EReal) := by
    simp [Ideal.ofBits, Ideal.ieee, ← EReal.coe_mul]; norm_num
  have h2 : ((2 : ℝ) : EReal) * ((1 / 2 : ℝ) : EReal) = 1 := by rw [← EReal.coe_mul]; norm_num
  rw [column_interleave, hh]
  simp only [refTerm_eq]
  rw [two_mul_sum, two_mul_sum, ← EReal.left_distrib_of_nonneg_of_ne_top h0 (EReal.coe_ne_top _), mul_comm g, mul_assoc,
    ← mul_assoc _ _ g, mul_comm _ (((1 / 2 : ℝ) : EReal)), mul_assoc, ← mul_assoc, h2, one_mul]

end Cert.Proof.Loop

end
-- ==== Proof.Answer.lean ====
/-
  The one function both programs are to compute over the extended reals, of the four arguments.
-/
module

public import proofs.«01_k».proof.Proof.Sums

@[expose] public section

noncomputable section

namespace Cert.Proof.Loop

open Idealize.ShloMosaic

/-- The index of a three-axis array with its coordinates named. -/
def at3 {l m n : ℕ} (i : Fin l) (j : Fin m) (k : Fin n) : (⟨3, ![l, m, n]⟩ : Shape).Idx := fun
  | ⟨0, _⟩ => i
  | ⟨1, _⟩ => j
  | ⟨2, _⟩ => k

/-- The index of a scalar. -/
def atScalar : (⟨0, ![]⟩ : Shape).Idx := fun a => a.elim0

/-- A scalar reshaped to one word, read at that word. -/
theorem word_of_scalar {α : Type} (g : (⟨0, ![]⟩ : Shape).Idx → α) (h : (⟨0, ![]⟩ : Shape).ShapeCasts SG) (i : SG.Idx) :
    shapeCast SG g h i = g atScalar :=
  congrArg g (funext fun a => a.elim0)

/-- Entry `(r, c)` of the result: the kernel's sum over the row, its halves interleaved, and the column, times the global scale. -/
def answer (x : (⟨3, ![64, 1, 13056]⟩ : Shape).Idx → EReal) (w : (⟨2, ![6528, 26496]⟩ : Shape).Idx → BitVec 8)
    (s : (⟨2, ![816, 26496]⟩ : Shape).Idx → EReal) (g : (⟨0, ![]⟩ : Shape).Idx → EReal) (r : Fin 64) (c : Fin 26496) : EReal :=
  column (interleave fun j => x (at3 r 0 j)) (fun j => w (ix j c)) (fun j => s (ix j c)) * g atScalar

end Cert.Proof.Loop

end
-- ==== Proof.Block.lean ====
/-
  The kernel's blocks over the extended reals: what the region's entry holds at the pipeline's arrays, where an entry of a
  block lies in its array, and that the stripe the body writes is the answer's block.
-/
module

public import proofs.«01_k».proof.Proof.Gen.KernelIdeal.Frame
public import proofs.«01_k».proof.Proof.Answer
public import Idealize.ShloMosaic.Lib.Pipeline.ValueKit
public import Idealize.ShloMosaic.Lib.Claim

@[expose] public section

noncomputable section

namespace Cert.Proof.Exact

open Cert.KernelIdeal Cert.KernelIdeal.Gen
open Idealize.ShloMosaic Idealize.ShloMosaic.TcCoe Idealize.SL.Sem
open Cert.Proof.Loop (ix at3 atScalar ix_eta ix_ext SX SW SS SG SO posG word_of_scalar answer column interleave out out_ideal scratch)

variable (m : (ℓ : Loc nD τ sig) → Buf (Elt Ideal) ℓ)

/-- The left operand at the region's entry: each row of the activation, its two halves interleaved. -/
theorem entry_x (c : Dev nD) (r : Fin 64) (j : Fin 13056) :
    V m c main_v2 (ix r j) = interleave (fun i => m ((c : Thread nD τ).loc main_arg0) (at3 r 0 i)) j := by
  entry_read
  refine (shapeCast_apply _ _ _ (at3 r ⟨j.val / 2, by omega⟩ ⟨j.val % 2, by omega⟩) ?_).trans ?_
  · refine (Shape.rowMajor_val_three _).trans (Eq.trans ?_ (Shape.rowMajor_val_two (ix r j)).symm)
    show (r.val * 6528 + j.val / 2) * 2 + j.val % 2 = r.val * 13056 + j.val
    omega
  refine (transpose_apply _ _ _ _ (at3 r ⟨j.val % 2, by omega⟩ ⟨j.val / 2, by omega⟩) ?_).trans ?_
  · intro b
    match b with
    | ⟨0, _⟩ => rfl
    | ⟨1, _⟩ => rfl
    | ⟨2, _⟩ => rfl
  refine shapeCast_apply _ _ _ (at3 r 0 ⟨j.val % 2 * 6528 + j.val / 2, by omega⟩) ?_
  refine (Shape.rowMajor_val_three _).trans (Eq.trans ?_ (Shape.rowMajor_val_three _).symm)
  show (r.val * 1 + 0) * 13056 + (j.val % 2 * 6528 + j.val / 2) = (r.val * 2 + j.val % 2) * 6528 + j.val / 2
  omega

/-- The word the kernel reads is the global scale. -/
theorem entry_g (c : Dev nD) (i : SG.Idx) : V m c main_v3 i = m ((c : Thread nD τ).loc main_arg3) atScalar := by
  entry_read
  exact word_of_scalar _ _ i

/-- The left operand's block is its array. -/
theorem iblk_0 (c : Dev nD) (t : Fin cfg0.N) : iblk m c 0 t = V m c main_v2 := by
  have e : ∀ t a, win0_0.index t a = 0 := (by decide +kernel : ∀ (t : Fin grid0.N) (a : Fin 2), _)
  funext y
  unfold iblk
  rw [View.read_apply]
  exact congrArg (V m c main_v2) (funext fun a => Fin.ext (win0_0.rect_emb_val_of_index_zero t a (e t a) y))

/-- The global scale's block is its array. -/
theorem iblk_3 (c : Dev nD) (t : Fin cfg0.N) : iblk m c 3 t = V m c main_v3 := by
  have e : ∀ t a, win0_3.index t a = 0 := (by decide +kernel : ∀ (t : Fin grid0.N) (a : Fin 1), _)
  funext y
  unfold iblk
  rw [View.read_apply]
  exact congrArg (V m c main_v3) (funext fun a => Fin.ext (win0_3.rect_emb_val_of_index_zero t a (e t a) y))

/-- Column `q` of the packed codes' block at point `t` is column `512 t + q` of their array, where that is inside it. -/
theorem fill_1 (c : Dev nD) (t : Fin cfg0.N) (d : SW.Idx → BitVec 8) (j : Fin 6528) (q : Fin 512) (n : Fin 26496) (h : n.val = 512 * t.val + q.val) :
    win0_1.fill (grid0.coords t) d (iblk m c 1 t) (ix j q) = m ((c : Thread nD τ).loc main_arg1) (ix j n) := by
  have e0 : ∀ t, win0_1.index t 0 = 0 := (by decide +kernel : ∀ t : Fin grid0.N, _)
  have e1 : ∀ t, win0_1.index t 1 = t.val := (by decide +kernel : ∀ t : Fin grid0.N, _)
  have s0 : ∀ t, win0_1.xsize (grid0.coords t) 0 = 6528 := (by decide +kernel : ∀ t : Fin grid0.N, _)
  have s1 : ∀ t, win0_1.xsize (grid0.coords t) 1 = min 512 (26496 - 512 * t.val) := (by decide +kernel : ∀ t : Fin grid0.N, _)
  have b0 : j.val < win0_1.xsize (grid0.coords t) 0 := Eq.subst (motive := fun n => j.val < n) (s0 t).symm j.isLt
  have b1 : q.val < win0_1.xsize (grid0.coords t) 1 := by rw [s1]; omega
  let z : (win0_1.xblock (grid0.coords t)).Idx := fun a =>
    ⟨![j.val, q.val] a, (Fin.forall_fin_two (p := fun a => ![j.val, q.val] a < win0_1.xsize (grid0.coords t) a)).2 ⟨b0, b1⟩ a⟩
  have hz : (ix j q : SW.Idx) = win0_1.xinj (grid0.coords t) z := ix_ext rfl rfl
  refine (congrArg _ hz).trans ((win0_1.fill_xinj _ _ _ z).trans ?_)
  unfold iblk
  rw [View.read_apply]
  refine Eq.trans ?_ (congrFun (V_main_arg1 m c) _)
  refine congrArg (V m c main_arg1) (ix_ext ?_ ?_)
  · refine (win0_1.rect_emb_val t z 0).trans ?_
    rw [e0]; show 0 * 6528 + j.val = j.val; omega
  · refine (win0_1.rect_emb_val t z 1).trans ?_
    rw [e1]; show t.val * 512 + q.val = n.val; omega

/-- The same of the scales. -/
theorem fill_2 (c : Dev nD) (t : Fin cfg0.N) (d : SS.Idx → Ideal .fp8e4m3) (j : Fin 816) (q : Fin 512) (n : Fin 26496) (h : n.val = 512 * t.val + q.val) :
    win0_2.fill (grid0.coords t) d (iblk m c 2 t) (ix j q) = m ((c : Thread nD τ).loc main_arg2) (ix j n) := by
  have e0 : ∀ t, win0_2.index t 0 = 0 := (by decide +kernel : ∀ t : Fin grid0.N, _)
  have e1 : ∀ t, win0_2.index t 1 = t.val := (by decide +kernel : ∀ t : Fin grid0.N, _)
  have s0 : ∀ t, win0_2.xsize (grid0.coords t) 0 = 816 := (by decide +kernel : ∀ t : Fin grid0.N, _)
  have s1 : ∀ t, win0_2.xsize (grid0.coords t) 1 = min 512 (26496 - 512 * t.val) := (by decide +kernel : ∀ t : Fin grid0.N, _)
  have b0 : j.val < win0_2.xsize (grid0.coords t) 0 := Eq.subst (motive := fun n => j.val < n) (s0 t).symm j.isLt
  have b1 : q.val < win0_2.xsize (grid0.coords t) 1 := by rw [s1]; omega
  let z : (win0_2.xblock (grid0.coords t)).Idx := fun a =>
    ⟨![j.val, q.val] a, (Fin.forall_fin_two (p := fun a => ![j.val, q.val] a < win0_2.xsize (grid0.coords t) a)).2 ⟨b0, b1⟩ a⟩
  have hz : (ix j q : SS.Idx) = win0_2.xinj (grid0.coords t) z := ix_ext rfl rfl
  refine (congrArg _ hz).trans ((win0_2.fill_xinj _ _ _ z).trans ?_)
  unfold iblk
  rw [View.read_apply]
  refine Eq.trans ?_ (congrFun (V_main_arg2 m c) _)
  refine congrArg (V m c main_arg2) (ix_ext ?_ ?_)
  · refine (win0_2.rect_emb_val t z 0).trans ?_
    rw [e0]; show 0 * 816 + j.val = j.val; omega
  · refine (win0_2.rect_emb_val t z 1).trans ?_
    rw [e1]; show t.val * 512 + q.val = n.val; omega

/-- The array the kernel is to leave. -/
def Y (c : Dev nD) : S64x26496.Idx → EReal := fun i =>
  answer (m ((c : Thread nD τ).loc main_arg0)) (m ((c : Thread nD τ).loc main_arg1)) (m ((c : Thread nD τ).loc main_arg2))
    (m ((c : Thread nD τ).loc main_arg3)) (i 0) (i 1)

/-- The stripe the body writes at point `t`, whatever the input buffers hold past the arrays' ends, at an entry inside the array. -/
theorem out_apply_entry (c : Dev nD) (t : Fin cfg0.N) (d1 : SW.Idx → BitVec 8) (d2 : SS.Idx → Ideal .fp8e4m3) (r : Fin 64) (q : Fin 512)
    (n : Fin 26496) (h : n.val = 512 * t.val + q.val) :
    out (F := Ideal) (iblk m c 0 t) (win0_1.fill (grid0.coords t) d1 (iblk m c 1 t))
        (scratch pack (win0_2.fill (grid0.coords t) d2 (iblk m c 2 t))) (iblk m c 3 t) (ix r q : SO.Idx)
      = answer (m ((c : Thread nD τ).loc main_arg0)) (m ((c : Thread nD τ).loc main_arg1)) (m ((c : Thread nD τ).loc main_arg2))
          (m ((c : Thread nD τ).loc main_arg3)) r n := by
  refine (out_ideal _ _ _ _ (ix r q)).trans ?_
  unfold answer
  refine congrArg₂ (· * ·) ?_ ?_
  · have hx : (fun j => iblk m c 0 t (ix r j)) = interleave (fun i => m ((c : Thread nD τ).loc main_arg0) (at3 r 0 i)) :=
      funext fun j => (congrFun (iblk_0 m c t) _).trans (entry_x m c r j)
    have hw : (fun j => win0_1.fill (grid0.coords t) d1 (iblk m c 1 t) (ix j q)) = fun j => m ((c : Thread nD τ).loc main_arg1) (ix j n) :=
      funext fun j => fill_1 m c t d1 j q n h
    have hs : (fun j => win0_2.fill (grid0.coords t) d2 (iblk m c 2 t) (ix j q)) = fun j => m ((c : Thread nD τ).loc main_arg2) (ix j n) :=
      funext fun j => fill_2 m c t d2 j q n h
    exact congr (congr (congrArg column hx) hw) hs
  · exact (congrFun (iblk_3 m c t) _).trans (entry_g m c _)

/-- The stripe the body writes at point `t`, cut to the part inside the array, is the answer's block. -/
theorem cut_out (c : Dev nD) (t : Fin cfg0.N) (d1 : SW.Idx → BitVec 8) (d2 : SS.Idx → Ideal .fp8e4m3) :
    win0_4.cut (grid0.coords t) (out (F := Ideal) (iblk m c 0 t) (win0_1.fill (grid0.coords t) d1 (iblk m c 1 t))
        (scratch pack (win0_2.fill (grid0.coords t) d2 (iblk m c 2 t))) (iblk m c 3 t))
      = (win0_4.blk t).view.read (Elt Ideal) (Y m c) := by
  have e0 : ∀ t, win0_4.index t 0 = 0 := (by decide +kernel : ∀ t : Fin grid0.N, _)
  have e1 : ∀ t, win0_4.index t 1 = t.val := (by decide +kernel : ∀ t : Fin grid0.N, _)
  funext y
  have h0 : ((win0_4.rect t).emb y 0).val = (y 0).val := by
    refine (win0_4.rect_emb_val t y 0).trans ?_
    rw [e0]; show 0 * 64 + (y 0).val = (y 0).val; omega
  have h1 : ((win0_4.rect t).emb y 1).val = 512 * t.val + (y 1).val := by
    refine (win0_4.rect_emb_val t y 1).trans ?_
    rw [e1]; show t.val * 512 + (y 1).val = 512 * t.val + (y 1).val; omega
  rw [View.read_apply]
  have hy : win0_4.xinj (grid0.coords t) y = (ix ((win0_4.rect t).emb y 0) (win0_4.xinj (grid0.coords t) y 1) : SO.Idx) :=
    ix_ext h0.symm rfl
  refine (congrArg _ hy).trans ((out_apply_entry m c t d1 d2 _ _ ((win0_4.rect t).emb y 1) h1).trans ?_)
  rfl

end Cert.Proof.Exact

end
-- ==== Proof.RunKernelIdeal.lean ====
/-
  The run of `KernelIdeal` over the extended reals: the result array ends at the answer of Proof/Answer.lean, the argument
  arrays unchanged.
-/
module

public import proofs.«01_k».proof.Proof.Gen.KernelIdeal.Frame
public import proofs.«01_k».proof.Proof.Unrolled
public import proofs.«01_k».proof.Proof.Triple
public import proofs.«01_k».proof.Proof.Block
public import Idealize.ShloMosaic.Lib.Claim

@[expose] public section

noncomputable section

namespace Cert.Proof.Exact

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The proof data: each input's buffer at its block, the output's at the answer's block; past the array's end, a filler. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => (0 : EReal)) (iblk m c 2 t)
    | ⟨3, _⟩ => iblk m c 3 t
    | ⟨4, _⟩ => win0_4.fill (grid0.coords t) (fun _ => (0 : EReal)) ((win0_4.blk t).view.read (Elt Ideal) (Y m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = win0_1.fill (grid0.coords t) (fun _ => (0#8 : BitVec 8)) (iblk m c 1 t) := by dsimp only [dats]
theorem after_2 (c : Dev nD) (t : Fin cfg0.N) :
    (dats m 0 c).after 2 t = win0_2.fill (grid0.coords t) (fun _ => (0 : EReal)) (iblk m c 2 t) := by
  dsimp only [dats]
theorem after_3 (c : Dev nD) (t : Fin cfg0.N) : (dats m 0 c).after 3 t = iblk m c 3 t := by dsimp only [dats]

theorem after_4 (c : Dev nD) (t : Fin cfg0.N) :
    (dats m 0 c).after 4 t = win0_4.fill (grid0.coords t) (fun _ => (0 : EReal)) ((win0_4.blk t).view.read (Elt Ideal) (Y m c)) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before_3 (c : Dev nD) (t : Fin cfg0.N) (d) : (dats m 0 c).before 3 t d = iblk m c 3 t :=
  before0_3_of m (dats m 0 c) (A_eq m c 3) (after_3 m c) t d

theorem defs₀_row (t : Fin cfg0.N) :
    defs₀ (F := Ideal) .tc cfg0.body (cfg0.bodyArgs t (cfg0.slots t)) = bodyAt0 t := by
  unfold defs₀; rw [Defs.onTc_tc]

/-- The scratch buffer, held at some contents, as the pipeline's rest holds it. -/
theorem scratch_back (c : Dev nD) : (iprop(∃ d, owns (c : Thread nD τ) (Memref.whole cc0_scratch0) fullShare d) : sProp 𝕄)
    ⊢ iprop(∃ f : Buf (Elt Ideal) ((c : Thread nD τ).loc cc0_scratch0), ((c : Thread nD τ).loc cc0_scratch0) ↦{fullShare} f) := by
  simp only [owns_whole_eq]
  iintro ⟨%d, %f, %hf, H⟩
  iexists f; iexact H

/-- The body at any point. -/
theorem body_obligation (c : Dev nD) :
    BodyObligationLoose (dats m 0 c) (defs₀ (F := Ideal)) Variants.none () Set.univ := fun t => by
  rw [bigSep_W0, bigSep_W0, defs₀_row]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold bodyAt0 Pipeline.ΦA
  rw [cc0_eq, scopedRest0_eq]
  iintro ⟨⟨⟨%f6, H6⟩, Hρ⟩, Ho, ⟨%d0, H0⟩, ⟨%d1, H1⟩, ⟨%d2, H2⟩, ⟨%d3, H3⟩, ⟨%d4, H4⟩⟩
  rw [before_0, before_1, before_2, before_3]
  iapply (Cert.Proof.Loop.wp_body Variants.none c none Set.univ pack)
  isplitl [H0]; · iexact H0
  isplitl [H1]; · iexact H1
  isplitl [H2]; · iexact H2
  isplitl [H3]; · iexact H3
  isplitl [H4]; · iexists _; iexact H4
  isplitl [H6]
  · iexists f6; rw [owns_whole_eq]; iexists f6; isplitr; · ipureintro; rfl
    iexact H6
  iintro ⟨H0, H1, H2, H3, H4, H6⟩
  isplitl [H6 Hρ]
  · isplitl [H6]
    · iapply (scratch_back c); iexact H6
    iexact Hρ
  isplitl [Ho]; · iexact Ho
  isplitl [H0]
  · change _ ⊢ owns (c : Thread nD τ) (st0_0 t) fullShare ((dats m 0 c).after 0 t)
    rw [after_0]; try iexact H0
  isplitl [H1]
  · iexists d1
    change _ ⊢ owns (c : Thread nD τ) (st0_1 t) fullShare (win0_1.fill (grid0.coords t) d1 (win0_1.cut (grid0.coords t) ((dats m 0 c).after 1 t)))
    rw [after_1, Window.cut_fill]; try iexact H1
  isplitl [H2]
  · iexists d2
    change _ ⊢ owns (c : Thread nD τ) (st0_2 t) fullShare (win0_2.fill (grid0.coords t) d2 (win0_2.cut (grid0.coords t) ((dats m 0 c).after 2 t)))
    rw [after_2, Window.cut_fill]; try iexact H2
  isplitl [H3]
  · change _ ⊢ owns (c : Thread nD τ) (st0_3 t) fullShare ((dats m 0 c).after 3 t)
    rw [after_3]; try iexact H3
  iexists Loop.out (F := Ideal) (iblk m c 0 t) (win0_1.fill (grid0.coords t) d1 (iblk m c 1 t))
    (Loop.scratch pack (win0_2.fill (grid0.coords t) d2 (iblk m c 2 t))) (iblk m c 3 t)
  change _ ⊢ owns (c : Thread nD τ) (st0_4 t) fullShare (win0_4.fill (grid0.coords t)
    (Loop.out (F := Ideal) (iblk m c 0 t) (win0_1.fill (grid0.coords t) d1 (iblk m c 1 t))
      (Loop.scratch pack (win0_2.fill (grid0.coords t) d2 (iblk m c 2 t))) (iblk m c 3 t))
    (win0_4.cut (grid0.coords t) ((dats m 0 c).after 4 t)))
  rw [after_4, Window.cut_fill, ← cut_out m c t d1 d2, Window.fill_congr_cut _ _ rfl]; try iexact H4

set_option backward.isDefEq.respectTransparency.types false in
/-- The run: the arrays at what the library computes of the proof data. -/
theorem run_main : θ_run defs (onTc (τ := τ) (main (F := Ideal))) (s₀ m ρ) (Pipeline.FramePost cfgs (dats m) (0 : Fin 1) (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The result array is the answer. -/
theorem final_eq (c : Dev nD) : (dats m 0 c).arrAt 4 cfg0.N = Y m c := by
  refine (dats m 0 c).arrAt_eq_of_covers 4 _ (by decide +kernel) fun t hf y => ?_
  rw [after_4]
  refine (cast_eq _ _).trans ((win0_4.fill_xinj _ _ _ y).trans ?_)
  rw [View.read_apply]; rfl

/-- THE RUN of `KernelIdeal` over the extended reals: the result array ends at the answer, the arguments unchanged. -/
theorem run : θ_run defs (onTc (τ := τ) (main (F := Ideal))) ⟨m, fun _ => 0, ρ⟩ (fun r => ∀ c : Dev nD,
      r.2.mem ((c.tc : Thread nD τ).loc main_v4) = Y m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final_eq m c),
      ((h c).2 main_arg0 (Pipeline.mem_restRefs_of main_arg0 (by decide) (by decide))).trans (V_main_arg0 m c),
      ((h c).1 1).trans <| ((dats m 0 c).arrAt_in 1 rfl _).trans ((A_eq m c 1).trans (V_main_arg1 m c)),
      ((h c).1 2).trans <| ((dats m 0 c).arrAt_in 2 rfl _).trans ((A_eq m c 2).trans (V_main_arg2 m c)),
      ((h c).2 main_arg3 (Pipeline.mem_restRefs_of main_arg3 (by decide) (by decide))).trans (V_main_arg3 m c)⟩) (run_main m ρ)

end Cert.Proof.Exact

end
-- ==== Proof.Reference.lean ====
/-
  The reference's payload over the extended reals, at an index: its two products' sums times half the global scale, the
  decoded weights spelled by code.
-/
module

public import proofs.«01_k».proof.Proof.Sums
public import proofs.«01_k».proof.Proof.Gen.ReferenceIdeal.Skeleton

@[expose] public section

noncomputable section

namespace Cert.ReferenceIdeal

open Idealize.ShloMosaic Idealize.ShloMosaic.ValueIdx Cert.ReferenceIdeal.Gen
open Cert.Proof.Loop (ix ix_ext refTerm refPattern refCode refTable code)
open scoped BigOperators

/-- A dequantized field: row `k` of the values times row `k / 16` of the scales. -/
theorem dequant_apply (v : FVec Ideal S6528x26496 .bf16) (s : FVec Ideal S408x26496 .bf16) (k : Fin 6528) (c : Fin 26496) :
    shapeCast S6528x26496 (mulf (shapeCast S408x16x26496 v shapeCasts_S6528x26496_S408x16x26496)
        (broadcastTo S408x16x26496 (shapeCast S408x1x26496 s shapeCasts_S408x26496_S408x1x26496)
          broadcasts_S408x1x26496_S408x16x26496)) shapeCasts_S408x16x26496_S6528x26496 (ix k c)
      = v (ix k c) * s (ix ⟨k.val / 16, by omega⟩ c) := by
  have e : (S408x16x26496.rowMajor (ix3 (⟨k.val / 16, by omega⟩ : Fin 408) (⟨k.val % 16, by omega⟩ : Fin 16) c)).val
      = (S6528x26496.rowMajor (ix k c)).val := by
    rw [Shape.rowMajor_val_three, Shape.rowMajor_val_two]
    show (k.val / 16 * 16 + k.val % 16) * 26496 + c.val = k.val * 26496 + c.val
    omega
  rw [shapeCast_apply _ _ (ix k c) _ e]
  show shapeCast S408x16x26496 v _ _ * broadcastTo S408x16x26496 _ _ _ = _
  rw [shapeCast_apply v _ _ (ix k c) e.symm, broadcastTo_apply _ _ _ (ix3 (⟨k.val / 16, by omega⟩ : Fin 408) (0 : Fin 1) c) (by
      intro a; match a with | ⟨0, _⟩ => rfl | ⟨1, _⟩ => rfl | ⟨2, _⟩ => rfl)]
  rw [shapeCast_apply s _ _ (ix (⟨k.val / 16, by omega⟩ : Fin 408) c) (by
    rw [Shape.rowMajor_val_three, Shape.rowMajor_val_two]
    show k.val / 16 * 26496 + c.val = (k.val / 16 * 1 + 0) * 26496 + c.val
    omega)]

/-- What the reference stores, from what it loads. -/
def stored (w : Vec Ideal S6528x26496 .i8) (x : Vec Ideal S64x13056 .bf16) (s : Vec Ideal S816x26496 .fp8e4m3) (g : EReal) :
    FVec Ideal S64x26496 .bf16 :=
  k0_pay1 (k0_pay3 x) (k0_pay4 w s) (k0_pay5 w) (k0_pay6 s) (k0_pay7 w) k0_pay8 g

/-- The low codes' weights, at an index. -/
theorem low_apply (w : Vec Ideal S6528x26496 .i8) (s : Vec Ideal S816x26496 .fp8e4m3) (k : Fin 6528) (c : Fin 26496) :
    k0_pay4 w s (ix k c) = Ideal.ofBits .bf16 (refTable (code (w (ix k c)) 0)) * s (ix ⟨0 * 408 + k.val / 16, by omega⟩ c) := by
  unfold k0_pay4
  refine (dequant_apply _ _ k c).trans (congrArg₂ (· * ·) ?_ (congrArg s (ix_ext ?_ ?_)))
  · rw [← Cert.Proof.Loop.refPattern_code]; rfl
  · show 0 + k.val / 16 = 0 * 408 + k.val / 16
    omega
  · show 0 + c.val = c.val
    omega

/-- The reference's entry: the sums of the low codes' terms and of the high codes', times half the global scale. -/
theorem stored_apply (w : Vec Ideal S6528x26496 .i8) (x : Vec Ideal S64x13056 .bf16) (s : Vec Ideal S816x26496 .fp8e4m3) (g : EReal)
    (r : Fin 64) (c : Fin 26496) :
    stored w x s g (ix r c)
      = ((∑ k, refTerm (fun j => x (ix r j)) (fun j => w (ix j c)) (fun j => s (ix j c)) k 0)
          + ∑ k, refTerm (fun j => x (ix r j)) (fun j => w (ix j c)) (fun j => s (ix j c)) k 1)
        * (g * Ideal.ofBits .f32 0x3F000000#32) := by
  have ei : (ix r c : S64x26496.Idx) = ix2 r c := ix_ext rfl rfl
  unfold stored k0_pay1
  show (FloatOps.matmul (F := Ideal) (DotDims.plain 64 6528 26496) none _ _ _ (ix r c)
      + FloatOps.matmul (F := Ideal) (DotDims.plain 64 6528 26496) none _ _ _ (ix r c)) * (g * Ideal.ofBits .f32 0x3F000000#32) = _
  refine congrArg (· * (g * Ideal.ofBits .f32 0x3F000000#32)) ?_
  rw [ei, Ideal.matmul_plain_apply, Ideal.matmul_plain_apply]
  have hz : ∀ i, constant (F := Ideal) S64x26496 .f32 0x00000000#32 i = 0 := fun _ => Ideal.ofBits_zero_f32
  rw [hz, zero_add, zero_add]
  have e2 : ∀ k : Fin 6528, (ix2 k c : S6528x26496.Idx) = ix k c := fun k => ix_ext rfl rfl
  unfold k0_pay3
  rw [shapeCast_self]
  refine congrArg₂ (· + ·) (Finset.sum_congr rfl fun k _ => ?_) (Finset.sum_congr rfl fun k _ => ?_)
  · refine congrArg₂ (· * ·) (congrArg x (ix_ext ?_ ?_)) ?_
    · show 0 + r.val = r.val
      omega
    · show 0 + k.val = 0 * 6528 + k.val
      omega
    · rw [e2]; exact low_apply w s k c
  · refine congrArg₂ (· * ·) (congrArg x (ix_ext ?_ ?_)) ?_
    · show 0 + r.val = r.val
      omega
    · show 6528 + k.val = 1 * 6528 + k.val
      omega
    · rw [e2]
      refine (dequant_apply _ _ k c).trans (congrArg₂ (· * ·) ?_ (congrArg s (ix_ext ?_ ?_)))
      · rw [← Cert.Proof.Loop.refPattern_code]; rfl
      · show 408 + k.val / 16 = 1 * 408 + k.val / 16
        omega
      · show 0 + c.val = c.val
        omega

end Cert.ReferenceIdeal

end
-- ==== Proof.RunReference.lean ====
/-
  The reference's run over the extended reals: its result array is the payload of Proof/Reference.lean at the arguments.
-/
module

public import proofs.«01_k».proof.Proof.Reference
public import proofs.«01_k».proof.Proof.Answer
public import proofs.«01_k».proof.Proof.Gen.ReferenceIdeal.Value
public import Idealize.ShloMosaic.Lib.Pipeline.ValueKit
public import Idealize.ShloMosaic.Lib.Claim
public import Idealize.ShloMosaic.Lib.Pipeline.ReadBack

@[expose] public section

noncomputable section

namespace Cert.ReferenceIdeal

open Idealize.ShloMosaic Idealize.ShloMosaic.TcCoe Idealize.SL.Sem Cert.ReferenceIdeal.Gen
open Cert.Proof.Loop (ix at3 atScalar ix_eta SG posG word_of_scalar answer column interleave column_eq)

variable (m : (ℓ : Loc nD τ sig) → Buf (Elt Ideal) ℓ) (ρ : Dev nD → PrngReg)

/-- Window 0's one block is its array. -/
theorem iblk_0 (c : Dev nD) (t : Fin cfg0.N) : iblk m c 0 t = V m c main_v0 := by
  have e : ∀ t a, win0_0.index t a = 0 := (by decide +kernel : ∀ (t : Fin grid0.N) (a : Fin 2), _)
  funext y
  unfold iblk
  rw [View.read_apply]
  exact congrArg (V m c main_v0) (funext fun a => Fin.ext (win0_0.rect_emb_val_of_index_zero t a (e t a) y))

/-- Window 1's one block is its array. -/
theorem iblk_1 (c : Dev nD) (t : Fin cfg0.N) : iblk m c 1 t = V m c main_arg1 := by
  have e : ∀ t a, win0_1.index t a = 0 := (by decide +kernel : ∀ (t : Fin grid0.N) (a : Fin 2), _)
  funext y
  unfold iblk
  rw [View.read_apply]
  exact congrArg (V m c main_arg1) (funext fun a => Fin.ext (win0_1.rect_emb_val_of_index_zero t a (e t a) y))

/-- Window 2's one block is its array. -/
theorem iblk_2 (c : Dev nD) (t : Fin cfg0.N) : iblk m c 2 t = V m c main_arg2 := by
  have e : ∀ t a, win0_2.index t a = 0 := (by decide +kernel : ∀ (t : Fin grid0.N) (a : Fin 2), _)
  funext y
  unfold iblk
  rw [View.read_apply]
  exact congrArg (V m c main_arg2) (funext fun a => Fin.ext (win0_2.rect_emb_val_of_index_zero t a (e t a) y))

/-- Window 3's one block is its array. -/
theorem iblk_3 (c : Dev nD) (t : Fin cfg0.N) : iblk m c 3 t = V m c main_v1 := by
  have e : ∀ t a, win0_3.index t a = 0 := (by decide +kernel : ∀ (t : Fin grid0.N) (a : Fin 1), _)
  funext y
  unfold iblk
  rw [View.read_apply]
  exact congrArg (V m c main_v1) (funext fun a => Fin.ext (win0_3.rect_emb_val_of_index_zero t a (e t a) y))

/-- The result array: what the body stores, at the arguments. -/
theorem final (c : Dev nD) : (dats m 0 c).arrAt 4 cfg0.N
    = stored (V m c main_arg1) (V m c main_v0) (V m c main_arg2) (V m c main_v1 (Shape.Idx.first posG)) := by
  have e : ∀ t a, win0_4.index t a = 0 := (by decide +kernel : ∀ (t : Fin grid0.N) (a : Fin 2), _)
  refine (dats m 0 c).arrAt_eq_of_covers 4 _ (by decide +kernel) fun t hf y => ?_
  blk_simp
  rw [after0_4]
  unfold outsAt0
  frame_out
  simp only [read_unread_whole]
  rw [iblk_0, iblk_1, iblk_2, iblk_3]
  exact congrArg (stored _ _ _ _) (funext fun a => Fin.ext (win0_4.rect_emb_val_of_index_zero t a (e t a) y).symm)

/-- The first operand is the activation reshaped. -/
theorem entry_x (c : Dev nD) (r : Fin 64) (j : Fin 13056) :
    V m c main_v0 (ix r j) = m ((c : Thread nD τ).loc main_arg0) (at3 r 0 j) := by
  entry_read
  refine shapeCast_apply _ _ _ (at3 r 0 j) ?_
  refine (Shape.rowMajor_val_three _).trans (Eq.trans ?_ (Shape.rowMajor_val_two (ix r j)).symm)
  show (r.val * 1 + 0) * 13056 + j.val = r.val * 13056 + j.val
  omega

/-- The fourth operand is the global scale reshaped. -/
theorem entry_g (c : Dev nD) (i : SG.Idx) : V m c main_v1 i = m ((c : Thread nD τ).loc main_arg3) atScalar := by
  entry_read
  exact word_of_scalar _ _ i

/-- An entry of what the body stores, at the region's entry. -/
theorem stored_entry (c : Dev nD) (r : Fin 64) (q : Fin 26496) :
    stored (V m c main_arg1) (V m c main_v0) (V m c main_arg2) (V m c main_v1 (Shape.Idx.first posG)) (ix r q)
      = answer (m ((c : Thread nD τ).loc main_arg0)) (m ((c : Thread nD τ).loc main_arg1)) (m ((c : Thread nD τ).loc main_arg2))
        (m ((c : Thread nD τ).loc main_arg3)) r q := by
  refine (stored_apply _ _ _ _ r q).trans ((column_eq _ _ _ _).trans ?_)
  unfold answer
  rw [entry_g, V_main_arg1, V_main_arg2]
  exact congrArg (fun x : Fin 13056 → EReal => column (interleave x) _ _ * _) (funext (entry_x m c r))

/-- The result array is the answer. -/
theorem final_eq (c : Dev nD) : (dats m 0 c).arrAt 4 cfg0.N = fun i =>
    answer (m ((c : Thread nD τ).loc main_arg0)) (m ((c : Thread nD τ).loc main_arg1)) (m ((c : Thread nD τ).loc main_arg2))
        (m ((c : Thread nD τ).loc main_arg3)) (i 0) (i 1) := by
  rw [final]
  funext i
  exact (congrArg _ (ix_eta i).symm).trans (stored_entry m c (i 0) (i 1))

/-- THE RUN of `ReferenceIdeal` over the extended reals: the result array ends at the answer, the arguments unchanged. -/
theorem run : θ_run defs (onTc (τ := τ) (main (F := Ideal))) ⟨m, fun _ => 0, ρ⟩ (fun r => ∀ c : Dev nD,
      r.2.mem ((c : Thread nD τ).loc main_v2) = (fun i =>
        answer (m ((c : Thread nD τ).loc main_arg0)) (m ((c : Thread nD τ).loc main_arg1)) (m ((c : Thread nD τ).loc main_arg2))
          (m ((c : Thread nD τ).loc main_arg3)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (final_eq m c), (h c).2⟩) (Value.run_blocks m ρ)

end Cert.ReferenceIdeal

end
-- ==== Proof.Algebraic.lean ====
/-
  The value claim over the extended reals: from memories agreeing on the arguments, the kernel and the reference both leave
  the answer in their result arrays.
-/
module

public import proofs.«01_k».proof.Defs
public import proofs.«01_k».proof.Proof.RunKernelIdeal
public import proofs.«01_k».proof.Proof.RunReference

@[expose] public section

noncomputable section

namespace Cert.Proof

open Idealize.ShloMosaic Idealize.SL.Sem

/-- The algebraic equality of the kernel and the reference. -/
theorem algebraic : algebraic_KernelIdeal_ReferenceIdeal := fun m g m' g' _ hagree =>
  ⟨fun c => Exact.Y m c, Exact.run m g, by
    refine (θ_run _ _ _).mono (fun r h c => ⟨(h c).1.trans ?_, (h c).2⟩) (Cert.ReferenceIdeal.run m' g')
    obtain ⟨h0, h1, h2, h3⟩ := hagree c
    rw [h0, h1, h2, h3]
    rfl⟩

end Cert.Proof

end
-- ==== Proof.lean ====
/-
  The proof of `Cert.Claim` (proofs.«01_k».proof.Defs): the three frames, the idealization rule's statements at the sites'
  shapes, and the algebraic equality of the kernel and the reference. The witnesses of the programs' stated facts come first.
-/
module

public import proofs.«01_k».proof.Defs
public import proofs.«01_k».proof.Proof.FrameKernel
public import proofs.«01_k».proof.Proof.FrameKernelIdeal
public import proofs.«01_k».proof.Proof.Gen.ReferenceIdeal.Frame
public import proofs.«01_k».proof.Proof.Gen.ReferenceIdeal.Value
public import proofs.«01_k».proof.Proof.Algebraic
public import Idealize.ShloMosaic.Lib.Bf16Pair

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => FrameKernel.frame m ρ, fun m ρ _ => FrameKernelIdeal.frame m ρ,
    fun m ρ _ => Cert.ReferenceIdeal.Gen.frame m ρ,
    ⟨IdealRules.bf16_pair.packStatement _, IdealRules.bf16_pair.statement _ _ (by decide)⟩,
    algebraic⟩

end Cert.Proof

end
